-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x4 : Shape := ⟨2, ![10000, 4]⟩
abbrev S10000x256 : Shape := ⟨2, ![10000, 256]⟩
abbrev S256x256 : Shape := ⟨2, ![256, 256]⟩
abbrev S256 : Shape := ⟨1, ![256]⟩
abbrev S3x256 : Shape := ⟨2, ![3, 256]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S10000x10000 : Shape := ⟨2, ![10000, 10000]⟩
abbrev S4x10000 : Shape := ⟨2, ![4, 10000]⟩
abbrev S10000x16 : Shape := ⟨2, ![10000, 16]⟩
abbrev S10000x3 : Shape := ⟨2, ![10000, 3]⟩
abbrev S10000x16x1 : Shape := ⟨3, ![10000, 16, 1]⟩
abbrev S1 : Shape := ⟨1, ![1]⟩
abbrev S1x1x1 : Shape := ⟨3, ![1, 1, 1]⟩
abbrev S10000x16x3 : Shape := ⟨3, ![10000, 16, 3]⟩
abbrev S10000x1x3 : Shape := ⟨3, ![10000, 1, 3]⟩
abbrev S10000x16x256 : Shape := ⟨3, ![10000, 16, 256]⟩
abbrev S1x1x256 : Shape := ⟨3, ![1, 1, 256]⟩
abbrev S1x256 : Shape := ⟨2, ![1, 256]⟩
abbrev S5x256 : Shape := ⟨2, ![5, 256]⟩

abbrev nBuf : Space → Nat
  | .hbm => 176
  | .vmem => 5
  | .smem => 0
  | _ => 0

abbrev hbmTy0_0 (i : Nat) : BufTy := match i % 128 with
  | 0 => ⟨S10000x4, .f32⟩
  | 1 => ⟨S10000x256, .f32⟩
  | 2 => ⟨S10000x4, .f32⟩
  | 3 => ⟨S10000x256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256x256, .f32⟩
  | 15 => ⟨S256, .f32⟩
  | 16 => ⟨S3x256, .f32⟩
  | 17 => ⟨S256, .f32⟩
  | 18 => ⟨S3x256, .f32⟩
  | 19 => ⟨S256, .f32⟩
  | 20 => ⟨S256x256, .f32⟩
  | 21 => ⟨S256, .f32⟩
  | 22 => ⟨S256, .f32⟩
  | 23 => ⟨S256, .f32⟩
  | 24 => ⟨S256, .f32⟩
  | 25 => ⟨S256, .f32⟩
  | 26 => ⟨S10000x4, .f32⟩
  | 27 => ⟨S_, .f32⟩
  | 28 => ⟨S10000, .f32⟩
  | 29 => ⟨S10000x1, .f32⟩
  | 30 => ⟨S10000x4, .f32⟩
  | 31 => ⟨S_, .f32⟩
  | 32 => ⟨S10000, .f32⟩
  | 33 => ⟨S1x10000, .f32⟩
  | 34 => ⟨S10000x10000, .f32⟩
  | 35 => ⟨S10000x10000, .f32⟩
  | 36 => ⟨S10000x10000, .f32⟩
  | 37 => ⟨S4x10000, .f32⟩
  | 38 => ⟨S10000x10000, .f32⟩
  | 39 => ⟨S_, .f32⟩
  | 40 => ⟨S10000x10000, .f32⟩
  | 41 => ⟨S10000x10000, .f32⟩
  | 42 => ⟨S10000x10000, .f32⟩
  | 43 => ⟨S10000x10000, .f32⟩
  | 44 => ⟨S10000x16, .f32⟩
  | 45 => ⟨S10000x16, .i32⟩
  | 46 => ⟨S10000x3, .f32⟩
  | 47 => ⟨S10000x3, .f32⟩
  | 48 => ⟨S_, .i32⟩
  | 49 => ⟨S10000x16, .i32⟩
  | 50 => ⟨S10000x16, .i1⟩
  | 51 => ⟨S_, .i32⟩
  | 52 => ⟨S10000x16, .i32⟩
  | 53 => ⟨S10000x16, .i32⟩
  | 54 => ⟨S10000x16, .i32⟩
  | 55 => ⟨S10000x16x1, .i32⟩
  | 56 => ⟨S1, .i32⟩
  | 57 => ⟨S_, .i32⟩
  | 58 => ⟨S10000x16x1, .i32⟩
  | 59 => ⟨S10000x16x1, .i1⟩
  | 60 => ⟨S1x1x1, .i32⟩
  | 61 => ⟨S10000x16x1, .i32⟩
  | 62 => ⟨S10000x16x1, .i1⟩
  | 63 => ⟨S10000x16x1, .i1⟩
  | 64 => ⟨S_, .i1⟩
  | 65 => ⟨S10000x16, .i1⟩
  | 66 => ⟨S10000x16x3, .f32⟩
  | 67 => ⟨S10000x16x3, .i1⟩
  | 68 => ⟨S_, .f32⟩
  | 69 => ⟨S10000x16x3, .f32⟩
  | 70 => ⟨S10000x16x3, .f32⟩
  | 71 => ⟨S10000x1x3, .f32⟩
  | 72 => ⟨S10000x16x3, .f32⟩
  | 73 => ⟨S10000x16x3, .f32⟩
  | 74 => ⟨S10000x16x256, .f32⟩
  | 75 => ⟨S1x1x256, .f32⟩
  | 76 => ⟨S10000x16x256, .f32⟩
  | 77 => ⟨S10000x16x256, .f32⟩
  | 78 => ⟨S_, .i32⟩
  | 79 => ⟨S10000x16, .i32⟩
  | 80 => ⟨S10000x16, .i1⟩
  | 81 => ⟨S_, .i32⟩
  | 82 => ⟨S10000x16, .i32⟩
  | 83 => ⟨S10000x16, .i32⟩
  | 84 => ⟨S10000x16, .i32⟩
  | 85 => ⟨S10000x16x1, .i32⟩
  | 86 => ⟨S1, .i32⟩
  | 87 => ⟨S_, .i32⟩
  | 88 => ⟨S10000x16x1, .i32⟩
  | 89 => ⟨S10000x16x1, .i1⟩
  | 90 => ⟨S1x1x1, .i32⟩
  | 91 => ⟨S10000x16x1, .i32⟩
  | 92 => ⟨S10000x16x1, .i1⟩
  | 93 => ⟨S10000x16x1, .i1⟩
  | 94 => ⟨S_, .i1⟩
  | 95 => ⟨S10000x16, .i1⟩
  | 96 => ⟨S10000x16x256, .f32⟩
  | 97 => ⟨S10000x16x256, .i1⟩
  | 98 => ⟨S_, .f32⟩
  | 99 => ⟨S10000x16x256, .f32⟩
  | 100 => ⟨S10000x16x256, .f32⟩
  | 101 => ⟨S10000x256, .f32⟩
  | 102 => ⟨S1x256, .f32⟩
  | 103 => ⟨S10000x256, .f32⟩
  | 104 => ⟨S10000x256, .f32⟩
  | 105 => ⟨S10000x16x256, .f32⟩
  | 106 => ⟨S10000x16x256, .f32⟩
  | 107 => ⟨S1x1x256, .f32⟩
  | 108 => ⟨S10000x16x256, .f32⟩
  | 109 => ⟨S10000x16x256, .f32⟩
  | 110 => ⟨S10000x16, .f32⟩
  | 111 => ⟨S_, .f32⟩
  | 112 => ⟨S10000x16, .f32⟩
  | 113 => ⟨S10000x16, .f32⟩
  | 114 => ⟨S_, .f32⟩
  | 115 => ⟨S10000, .f32⟩
  | 116 => ⟨S_, .f32⟩
  | 117 => ⟨S10000, .f32⟩
  | 118 => ⟨S10000, .f32⟩
  | 119 => ⟨S10000x1, .f32⟩
  | 120 => ⟨S10000x16, .f32⟩
  | 121 => ⟨S10000x16, .f32⟩
  | 122 => ⟨S10000x16, .f32⟩
  | 123 => ⟨S_, .f32⟩
  | 124 => ⟨S10000, .f32⟩
  | 125 => ⟨S10000x1, .f32⟩
  | 126 => ⟨S10000x16, .f32⟩
  | 127 => ⟨S10000x16, .f32⟩
  | _ => ⟨S10000x4, .f32⟩

abbrev hbmTy0_1 (i : Nat) : BufTy := match i % 128 with
  | 0 => ⟨S10000x16x256, .f32⟩
  | 1 => ⟨S1x1x256, .f32⟩
  | 2 => ⟨S10000x16x256, .f32⟩
  | 3 => ⟨S10000x16x256, .f32⟩
  | 4 => ⟨S10000x256, .f32⟩
  | 5 => ⟨S10000x16x256, .f32⟩
  | 6 => ⟨S1x1x256, .f32⟩
  | 7 => ⟨S10000x16x256, .f32⟩
  | 8 => ⟨S10000x16x256, .f32⟩
  | 9 => ⟨S10000x256, .f32⟩
  | 10 => ⟨S1x256, .f32⟩
  | 11 => ⟨S10000x256, .f32⟩
  | 12 => ⟨S10000x256, .f32⟩
  | 13 => ⟨S10000x16x256, .f32⟩
  | 14 => ⟨S10000x16x256, .f32⟩
  | 15 => ⟨S1x1x256, .f32⟩
  | 16 => ⟨S10000x16x256, .f32⟩
  | 17 => ⟨S10000x16x256, .f32⟩
  | 18 => ⟨S10000x16, .f32⟩
  | 19 => ⟨S_, .f32⟩
  | 20 => ⟨S10000x16, .f32⟩
  | 21 => ⟨S10000x16, .f32⟩
  | 22 => ⟨S_, .f32⟩
  | 23 => ⟨S10000, .f32⟩
  | 24 => ⟨S_, .f32⟩
  | 25 => ⟨S10000, .f32⟩
  | 26 => ⟨S10000, .f32⟩
  | 27 => ⟨S10000x1, .f32⟩
  | 28 => ⟨S10000x16, .f32⟩
  | 29 => ⟨S10000x16, .f32⟩
  | 30 => ⟨S10000x16, .f32⟩
  | 31 => ⟨S_, .f32⟩
  | 32 => ⟨S10000, .f32⟩
  | 33 => ⟨S10000x1, .f32⟩
  | 34 => ⟨S10000x16, .f32⟩
  | 35 => ⟨S10000x16, .f32⟩
  | 36 => ⟨S10000x16x256, .f32⟩
  | 37 => ⟨S1x1x256, .f32⟩
  | 38 => ⟨S10000x16x256, .f32⟩
  | 39 => ⟨S10000x16x256, .f32⟩
  | 40 => ⟨S10000x256, .f32⟩
  | 41 => ⟨S1x256, .f32⟩
  | 42 => ⟨S1x256, .f32⟩
  | 43 => ⟨S1x256, .f32⟩
  | 44 => ⟨S1x256, .f32⟩
  | 45 => ⟨S1x256, .f32⟩
  | 46 => ⟨S5x256, .f32⟩
  | 47 => ⟨S10000x256, .f32⟩
  | _ => ⟨S10000x4, .f32⟩

abbrev hbmTy (i : Nat) : BufTy := match i / 128 with
  | 0 => hbmTy0_0 i
  | 1 => hbmTy0_1 i
  | _ => ⟨S10000x4, .f32⟩

abbrev bufTy : (tb : Table) → Fin (tcTables nBuf tb) → BufTy
  | .hbm, ⟨i, _⟩ => hbmTy i
  | .local _ .vmem, ⟨0, _⟩ => ⟨S10000x256, .f32⟩
  | .local _ .vmem, ⟨1, _⟩ => ⟨S10000x256, .f32⟩
  | .local _ .vmem, ⟨2, _⟩ => ⟨S256x256, .f32⟩
  | .local _ .vmem, ⟨3, _⟩ => ⟨S5x256, .f32⟩
  | .local _ .vmem, ⟨4, _⟩ => ⟨S10000x256, .f32⟩
  | _, _ => ⟨S10000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_values : Ref sig .tc := ⟨.hbm, 44, rfl⟩
abbrev main_indices : Ref sig .tc := ⟨.hbm, 45, rfl⟩
abbrev main_v15 : Ref sig .tc := ⟨.hbm, 46, rfl⟩
abbrev main_v16 : Ref sig .tc := ⟨.hbm, 47, rfl⟩
abbrev main_call0_c : Ref sig .tc := ⟨.hbm, 48, rfl⟩
abbrev main_call0_v0 : Ref sig .tc := ⟨.hbm, 49, rfl⟩
abbrev main_call0_v1 : Ref sig .tc := ⟨.hbm, 50, rfl⟩
abbrev main_call0_c_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_c_1 : Ref sig .tc := ⟨.hbm, 56, rfl⟩
abbrev main_call0_c_2 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_3 : Ref sig .tc := ⟨.hbm, 64, rfl⟩
abbrev main_call0_v12 : Ref sig .tc := ⟨.hbm, 65, rfl⟩
abbrev main_call0_v13 : Ref sig .tc := ⟨.hbm, 66, rfl⟩
abbrev main_call0_v14 : Ref sig .tc := ⟨.hbm, 67, rfl⟩
abbrev main_call0_cst : Ref sig .tc := ⟨.hbm, 68, rfl⟩
abbrev main_call0_v15 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_call1_c : Ref sig .tc := ⟨.hbm, 78, rfl⟩
abbrev main_call1_v0 : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_c_1 : Ref sig .tc := ⟨.hbm, 86, rfl⟩
abbrev main_call1_c_2 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_3 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_call1_cst : Ref sig .tc := ⟨.hbm, 98, rfl⟩
abbrev main_call1_v15 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_cst_2 : Ref sig .tc := ⟨.hbm, 111, rfl⟩
abbrev main_v36 : Ref sig .tc := ⟨.hbm, 112, rfl⟩
abbrev main_v37 : Ref sig .tc := ⟨.hbm, 113, rfl⟩
abbrev main_cst_3 : Ref sig .tc := ⟨.hbm, 114, rfl⟩
abbrev main_v38 : Ref sig .tc := ⟨.hbm, 115, rfl⟩
abbrev main_cst_4 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_cst_5 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_cst_6 : Ref sig .tc := ⟨.hbm, 147, rfl⟩
abbrev main_v68 : Ref sig .tc := ⟨.hbm, 148, rfl⟩
abbrev main_v69 : Ref sig .tc := ⟨.hbm, 149, rfl⟩
abbrev main_cst_7 : Ref sig .tc := ⟨.hbm, 150, rfl⟩
abbrev main_v70 : Ref sig .tc := ⟨.hbm, 151, rfl⟩
abbrev main_cst_8 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_cst_9 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S10000x4 : Shape := ⟨2, ![10000, 4]⟩
abbrev S10000x256 : Shape := ⟨2, ![10000, 256]⟩
abbrev S256x256 : Shape := ⟨2, ![256, 256]⟩
abbrev S256 : Shape := ⟨1, ![256]⟩
abbrev S3x256 : Shape := ⟨2, ![3, 256]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S10000x10000 : Shape := ⟨2, ![10000, 10000]⟩
abbrev S4x10000 : Shape := ⟨2, ![4, 10000]⟩
abbrev S10000x16 : Shape := ⟨2, ![10000, 16]⟩
abbrev S10000x3 : Shape := ⟨2, ![10000, 3]⟩
abbrev S10000x16x1 : Shape := ⟨3, ![10000, 16, 1]⟩
abbrev S1 : Shape := ⟨1, ![1]⟩
abbrev S1x1x1 : Shape := ⟨3, ![1, 1, 1]⟩
abbrev S10000x16x3 : Shape := ⟨3, ![10000, 16, 3]⟩
abbrev S10000x1x3 : Shape := ⟨3, ![10000, 1, 3]⟩
abbrev S10000x16x256 : Shape := ⟨3, ![10000, 16, 256]⟩
abbrev S1x1x256 : Shape := ⟨3, ![1, 1, 256]⟩
abbrev S1x256 : Shape := ⟨2, ![1, 256]⟩

abbrev nBuf : Space → Nat
  | .hbm => 263
  | .vmem => 0
  | .smem => 0
  | _ => 0

abbrev hbmTy0_0 (i : Nat) : BufTy := match i % 128 with
  | 0 => ⟨S10000x4, .f32⟩
  | 1 => ⟨S10000x256, .f32⟩
  | 2 => ⟨S10000x4, .f32⟩
  | 3 => ⟨S10000x256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256x256, .f32⟩
  | 15 => ⟨S256, .f32⟩
  | 16 => ⟨S3x256, .f32⟩
  | 17 => ⟨S256, .f32⟩
  | 18 => ⟨S3x256, .f32⟩
  | 19 => ⟨S256, .f32⟩
  | 20 => ⟨S256x256, .f32⟩
  | 21 => ⟨S256, .f32⟩
  | 22 => ⟨S256, .f32⟩
  | 23 => ⟨S256, .f32⟩
  | 24 => ⟨S256, .f32⟩
  | 25 => ⟨S256, .f32⟩
  | 26 => ⟨S10000x4, .f32⟩
  | 27 => ⟨S_, .f32⟩
  | 28 => ⟨S10000, .f32⟩
  | 29 => ⟨S10000x1, .f32⟩
  | 30 => ⟨S10000x4, .f32⟩
  | 31 => ⟨S_, .f32⟩
  | 32 => ⟨S10000, .f32⟩
  | 33 => ⟨S1x10000, .f32⟩
  | 34 => ⟨S10000x10000, .f32⟩
  | 35 => ⟨S10000x10000, .f32⟩
  | 36 => ⟨S10000x10000, .f32⟩
  | 37 => ⟨S4x10000, .f32⟩
  | 38 => ⟨S10000x10000, .f32⟩
  | 39 => ⟨S_, .f32⟩
  | 40 => ⟨S10000x10000, .f32⟩
  | 41 => ⟨S10000x10000, .f32⟩
  | 42 => ⟨S10000x10000, .f32⟩
  | 43 => ⟨S10000x10000, .f32⟩
  | 44 => ⟨S10000x16, .f32⟩
  | 45 => ⟨S10000x16, .i32⟩
  | 46 => ⟨S10000x3, .f32⟩
  | 47 => ⟨S10000x3, .f32⟩
  | 48 => ⟨S_, .i32⟩
  | 49 => ⟨S10000x16, .i32⟩
  | 50 => ⟨S10000x16, .i1⟩
  | 51 => ⟨S_, .i32⟩
  | 52 => ⟨S10000x16, .i32⟩
  | 53 => ⟨S10000x16, .i32⟩
  | 54 => ⟨S10000x16, .i32⟩
  | 55 => ⟨S10000x16x1, .i32⟩
  | 56 => ⟨S1, .i32⟩
  | 57 => ⟨S_, .i32⟩
  | 58 => ⟨S10000x16x1, .i32⟩
  | 59 => ⟨S10000x16x1, .i1⟩
  | 60 => ⟨S1x1x1, .i32⟩
  | 61 => ⟨S10000x16x1, .i32⟩
  | 62 => ⟨S10000x16x1, .i1⟩
  | 63 => ⟨S10000x16x1, .i1⟩
  | 64 => ⟨S_, .i1⟩
  | 65 => ⟨S10000x16, .i1⟩
  | 66 => ⟨S10000x16x3, .f32⟩
  | 67 => ⟨S10000x16x3, .i1⟩
  | 68 => ⟨S_, .f32⟩
  | 69 => ⟨S10000x16x3, .f32⟩
  | 70 => ⟨S10000x16x3, .f32⟩
  | 71 => ⟨S10000x1x3, .f32⟩
  | 72 => ⟨S10000x16x3, .f32⟩
  | 73 => ⟨S10000x16x3, .f32⟩
  | 74 => ⟨S10000x16x256, .f32⟩
  | 75 => ⟨S1x1x256, .f32⟩
  | 76 => ⟨S10000x16x256, .f32⟩
  | 77 => ⟨S10000x16x256, .f32⟩
  | 78 => ⟨S_, .i32⟩
  | 79 => ⟨S10000x16, .i32⟩
  | 80 => ⟨S10000x16, .i1⟩
  | 81 => ⟨S_, .i32⟩
  | 82 => ⟨S10000x16, .i32⟩
  | 83 => ⟨S10000x16, .i32⟩
  | 84 => ⟨S10000x16, .i32⟩
  | 85 => ⟨S10000x16x1, .i32⟩
  | 86 => ⟨S1, .i32⟩
  | 87 => ⟨S_, .i32⟩
  | 88 => ⟨S10000x16x1, .i32⟩
  | 89 => ⟨S10000x16x1, .i1⟩
  | 90 => ⟨S1x1x1, .i32⟩
  | 91 => ⟨S10000x16x1, .i32⟩
  | 92 => ⟨S10000x16x1, .i1⟩
  | 93 => ⟨S10000x16x1, .i1⟩
  | 94 => ⟨S_, .i1⟩
  | 95 => ⟨S10000x16, .i1⟩
  | 96 => ⟨S10000x16x256, .f32⟩
  | 97 => ⟨S10000x16x256, .i1⟩
  | 98 => ⟨S_, .f32⟩
  | 99 => ⟨S10000x16x256, .f32⟩
  | 100 => ⟨S10000x16x256, .f32⟩
  | 101 => ⟨S10000x256, .f32⟩
  | 102 => ⟨S1x256, .f32⟩
  | 103 => ⟨S10000x256, .f32⟩
  | 104 => ⟨S10000x256, .f32⟩
  | 105 => ⟨S10000x16x256, .f32⟩
  | 106 => ⟨S10000x16x256, .f32⟩
  | 107 => ⟨S1x1x256, .f32⟩
  | 108 => ⟨S10000x16x256, .f32⟩
  | 109 => ⟨S10000x16x256, .f32⟩
  | 110 => ⟨S10000x16, .f32⟩
  | 111 => ⟨S_, .f32⟩
  | 112 => ⟨S10000x16, .f32⟩
  | 113 => ⟨S10000x16, .f32⟩
  | 114 => ⟨S_, .f32⟩
  | 115 => ⟨S10000, .f32⟩
  | 116 => ⟨S_, .f32⟩
  | 117 => ⟨S10000, .f32⟩
  | 118 => ⟨S10000, .f32⟩
  | 119 => ⟨S10000x1, .f32⟩
  | 120 => ⟨S10000x16, .f32⟩
  | 121 => ⟨S10000x16, .f32⟩
  | 122 => ⟨S10000x16, .f32⟩
  | 123 => ⟨S_, .f32⟩
  | 124 => ⟨S10000, .f32⟩
  | 125 => ⟨S10000x1, .f32⟩
  | 126 => ⟨S10000x16, .f32⟩
  | 127 => ⟨S10000x16, .f32⟩
  | _ => ⟨S10000x4, .f32⟩

abbrev hbmTy0_1 (i : Nat) : BufTy := match i % 128 with
  | 0 => ⟨S10000x16x256, .f32⟩
  | 1 => ⟨S1x1x256, .f32⟩
  | 2 => ⟨S10000x16x256, .f32⟩
  | 3 => ⟨S10000x16x256, .f32⟩
  | 4 => ⟨S10000x256, .f32⟩
  | 5 => ⟨S10000x16x256, .f32⟩
  | 6 => ⟨S1x1x256, .f32⟩
  | 7 => ⟨S10000x16x256, .f32⟩
  | 8 => ⟨S10000x16x256, .f32⟩
  | 9 => ⟨S10000x256, .f32⟩
  | 10 => ⟨S1x256, .f32⟩
  | 11 => ⟨S10000x256, .f32⟩
  | 12 => ⟨S10000x256, .f32⟩
  | 13 => ⟨S10000x16x256, .f32⟩
  | 14 => ⟨S10000x16x256, .f32⟩
  | 15 => ⟨S1x1x256, .f32⟩
  | 16 => ⟨S10000x16x256, .f32⟩
  | 17 => ⟨S10000x16x256, .f32⟩
  | 18 => ⟨S10000x16, .f32⟩
  | 19 => ⟨S_, .f32⟩
  | 20 => ⟨S10000x16, .f32⟩
  | 21 => ⟨S10000x16, .f32⟩
  | 22 => ⟨S_, .f32⟩
  | 23 => ⟨S10000, .f32⟩
  | 24 => ⟨S_, .f32⟩
  | 25 => ⟨S10000, .f32⟩
  | 26 => ⟨S10000, .f32⟩
  | 27 => ⟨S10000x1, .f32⟩
  | 28 => ⟨S10000x16, .f32⟩
  | 29 => ⟨S10000x16, .f32⟩
  | 30 => ⟨S10000x16, .f32⟩
  | 31 => ⟨S_, .f32⟩
  | 32 => ⟨S10000, .f32⟩
  | 33 => ⟨S10000x1, .f32⟩
  | 34 => ⟨S10000x16, .f32⟩
  | 35 => ⟨S10000x16, .f32⟩
  | 36 => ⟨S10000x16x256, .f32⟩
  | 37 => ⟨S1x1x256, .f32⟩
  | 38 => ⟨S10000x16x256, .f32⟩
  | 39 => ⟨S10000x16x256, .f32⟩
  | 40 => ⟨S10000x256, .f32⟩
  | 41 => ⟨S10000x256, .f32⟩
  | 42 => ⟨S_, .f32⟩
  | 43 => ⟨S256, .f32⟩
  | 44 => ⟨S_, .f32⟩
  | 45 => ⟨S256, .f32⟩
  | 46 => ⟨S256, .f32⟩
  | 47 => ⟨S_, .i32⟩
  | 48 => ⟨S_, .f32⟩
  | 49 => ⟨S256, .f32⟩
  | 50 => ⟨S1x256, .f32⟩
  | 51 => ⟨S_, .f32⟩
  | 52 => ⟨S1x256, .f32⟩
  | 53 => ⟨S1x256, .f32⟩
  | 54 => ⟨S10000x256, .f32⟩
  | 55 => ⟨S10000x256, .f32⟩
  | 56 => ⟨S10000x256, .f32⟩
  | 57 => ⟨S_, .f32⟩
  | 58 => ⟨S_, .f32⟩
  | 59 => ⟨S_, .f32⟩
  | 60 => ⟨S_, .f32⟩
  | 61 => ⟨S256, .f32⟩
  | 62 => ⟨S256, .f32⟩
  | 63 => ⟨S256, .f32⟩
  | 64 => ⟨S_, .f32⟩
  | 65 => ⟨S_, .i1⟩
  | 66 => ⟨S_, .f32⟩
  | 67 => ⟨S_, .f32⟩
  | 68 => ⟨S256, .f32⟩
  | 69 => ⟨S256, .f32⟩
  | 70 => ⟨S1x256, .f32⟩
  | 71 => ⟨S10000x256, .f32⟩
  | 72 => ⟨S10000x256, .f32⟩
  | 73 => ⟨S_, .f32⟩
  | 74 => ⟨S256, .f32⟩
  | 75 => ⟨S256, .f32⟩
  | 76 => ⟨S256, .f32⟩
  | 77 => ⟨S1x256, .f32⟩
  | 78 => ⟨S10000x256, .f32⟩
  | 79 => ⟨S10000x256, .f32⟩
  | 80 => ⟨S1x256, .f32⟩
  | 81 => ⟨S10000x256, .f32⟩
  | 82 => ⟨S10000x256, .f32⟩
  | 83 => ⟨S1x256, .f32⟩
  | 84 => ⟨S10000x256, .f32⟩
  | 85 => ⟨S10000x256, .f32⟩
  | 86 => ⟨S10000x256, .f32⟩
  | 87 => ⟨S1x256, .f32⟩
  | 88 => ⟨S10000x256, .f32⟩
  | 89 => ⟨S10000x256, .f32⟩
  | 90 => ⟨S10000x256, .f32⟩
  | 91 => ⟨S_, .f32⟩
  | 92 => ⟨S256, .f32⟩
  | 93 => ⟨S_, .f32⟩
  | 94 => ⟨S256, .f32⟩
  | 95 => ⟨S256, .f32⟩
  | 96 => ⟨S_, .i32⟩
  | 97 => ⟨S_, .f32⟩
  | 98 => ⟨S256, .f32⟩
  | 99 => ⟨S1x256, .f32⟩
  | 100 => ⟨S_, .f32⟩
  | 101 => ⟨S1x256, .f32⟩
  | 102 => ⟨S1x256, .f32⟩
  | 103 => ⟨S10000x256, .f32⟩
  | 104 => ⟨S10000x256, .f32⟩
  | 105 => ⟨S10000x256, .f32⟩
  | 106 => ⟨S_, .f32⟩
  | 107 => ⟨S_, .f32⟩
  | 108 => ⟨S_, .f32⟩
  | 109 => ⟨S_, .f32⟩
  | 110 => ⟨S256, .f32⟩
  | 111 => ⟨S256, .f32⟩
  | 112 => ⟨S256, .f32⟩
  | 113 => ⟨S_, .f32⟩
  | 114 => ⟨S_, .i1⟩
  | 115 => ⟨S_, .f32⟩
  | 116 => ⟨S_, .f32⟩
  | 117 => ⟨S256, .f32⟩
  | 118 => ⟨S256, .f32⟩
  | 119 => ⟨S1x256, .f32⟩
  | 120 => ⟨S10000x256, .f32⟩
  | 121 => ⟨S10000x256, .f32⟩
  | 122 => ⟨S_, .f32⟩
  | 123 => ⟨S256, .f32⟩
  | 124 => ⟨S256, .f32⟩
  | 125 => ⟨S256, .f32⟩
  | 126 => ⟨S1x256, .f32⟩
  | 127 => ⟨S10000x256, .f32⟩
  | _ => ⟨S10000x4, .f32⟩

abbrev hbmTy0_2 (i : Nat) : BufTy := match i % 128 with
  | 0 => ⟨S10000x256, .f32⟩
  | 1 => ⟨S1x256, .f32⟩
  | 2 => ⟨S10000x256, .f32⟩
  | 3 => ⟨S10000x256, .f32⟩
  | 4 => ⟨S1x256, .f32⟩
  | 5 => ⟨S10000x256, .f32⟩
  | 6 => ⟨S10000x256, .f32⟩
  | _ => ⟨S10000x4, .f32⟩

abbrev hbmTy (i : Nat) : BufTy := match i / 128 with
  | 0 => hbmTy0_0 i
  | 1 => hbmTy0_1 i
  | 2 => hbmTy0_2 i
  | _ => ⟨S10000x4, .f32⟩

abbrev bufTy : (tb : Table) → Fin (tcTables nBuf tb) → BufTy
  | .hbm, ⟨i, _⟩ => hbmTy i
  | _, _ => ⟨S10000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_values : Ref sig .tc := ⟨.hbm, 44, rfl⟩
abbrev main_indices : Ref sig .tc := ⟨.hbm, 45, rfl⟩
abbrev main_v15 : Ref sig .tc := ⟨.hbm, 46, rfl⟩
abbrev main_v16 : Ref sig .tc := ⟨.hbm, 47, rfl⟩
abbrev main_call0_c : Ref sig .tc := ⟨.hbm, 48, rfl⟩
abbrev main_call0_v0 : Ref sig .tc := ⟨.hbm, 49, rfl⟩
abbrev main_call0_v1 : Ref sig .tc := ⟨.hbm, 50, rfl⟩
abbrev main_call0_c_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_c_1 : Ref sig .tc := ⟨.hbm, 56, rfl⟩
abbrev main_call0_c_2 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_3 : Ref sig .tc := ⟨.hbm, 64, rfl⟩
abbrev main_call0_v12 : Ref sig .tc := ⟨.hbm, 65, rfl⟩
abbrev main_call0_v13 : Ref sig .tc := ⟨.hbm, 66, rfl⟩
abbrev main_call0_v14 : Ref sig .tc := ⟨.hbm, 67, rfl⟩
abbrev main_call0_cst : Ref sig .tc := ⟨.hbm, 68, rfl⟩
abbrev main_call0_v15 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_call1_c : Ref sig .tc := ⟨.hbm, 78, rfl⟩
abbrev main_call1_v0 : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_c_1 : Ref sig .tc := ⟨.hbm, 86, rfl⟩
abbrev main_call1_c_2 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_3 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_call1_cst : Ref sig .tc := ⟨.hbm, 98, rfl⟩
abbrev main_call1_v15 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_cst_2 : Ref sig .tc := ⟨.hbm, 111, rfl⟩
abbrev main_v36 : Ref sig .tc := ⟨.hbm, 112, rfl⟩
abbrev main_v37 : Ref sig .tc := ⟨.hbm, 113, rfl⟩
abbrev main_cst_3 : Ref sig .tc := ⟨.hbm, 114, rfl⟩
abbrev main_v38 : Ref sig .tc := ⟨.hbm, 115, rfl⟩
abbrev main_cst_4 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_cst_5 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_cst_6 : Ref sig .tc := ⟨.hbm, 147, rfl⟩
abbrev main_v68 : Ref sig .tc := ⟨.hbm, 148, rfl⟩
abbrev main_v69 : Ref sig .tc := ⟨.hbm, 149, rfl⟩
abbrev main_cst_7 : Ref sig .tc := ⟨.hbm, 150, rfl⟩
abbrev main_v70 : Ref sig .tc := ⟨.hbm, 151, rfl⟩
abbrev main_cst_8 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_cst_9 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_cst_10 : Ref sig .tc := ⟨.hbm, 170, rfl⟩
abbrev main_v87 : Ref sig .tc := ⟨.hbm, 171, rfl⟩
abbrev main_cst_11 : Ref sig .tc := ⟨.hbm, 172, rfl⟩
abbrev main_v88 : Ref sig .tc := ⟨.hbm, 173, rfl⟩
abbrev main_v89 : Ref sig .tc := ⟨.hbm, 174, rfl⟩
abbrev main_c : Ref sig .tc := ⟨.hbm, 175, rfl⟩
abbrev main_call2_cst : Ref sig .tc := ⟨.hbm, 176, rfl⟩
abbrev main_call2_v0 : Ref sig .tc := ⟨.hbm, 177, rfl⟩
abbrev main_call2_v1 : Ref sig .tc := ⟨.hbm, 178, rfl⟩
abbrev main_call2_cst_0 : Ref sig .tc := ⟨.hbm, 179, rfl⟩
abbrev main_call2_v2 : Ref sig .tc := ⟨.hbm, 180, rfl⟩
abbrev main_call2_v3 : Ref sig .tc := ⟨.hbm, 181, rfl⟩
abbrev main_call2_v4 : Ref sig .tc := ⟨.hbm, 182, rfl⟩
abbrev main_call2_v5 : Ref sig .tc := ⟨.hbm, 183, rfl⟩
abbrev main_call2_v6 : Ref sig .tc := ⟨.hbm, 184, rfl⟩
abbrev main_call2_v7 : Ref sig .tc := ⟨.hbm, 185, rfl⟩
abbrev main_call2_cst_1 : Ref sig .tc := ⟨.hbm, 186, rfl⟩
abbrev main_call2_v8 : Ref sig .tc := ⟨.hbm, 187, rfl⟩
abbrev main_call2_cst_2 : Ref sig .tc := ⟨.hbm, 188, rfl⟩
abbrev main_call2_v9 : Ref sig .tc := ⟨.hbm, 189, rfl⟩
abbrev main_call2_v10 : Ref sig .tc := ⟨.hbm, 190, rfl⟩
abbrev main_call2_v11 : Ref sig .tc := ⟨.hbm, 191, rfl⟩
abbrev main_call2_cst_3 : Ref sig .tc := ⟨.hbm, 192, rfl⟩
abbrev main_call2_v12 : Ref sig .tc := ⟨.hbm, 193, rfl⟩
abbrev main_call2_cst_4 : Ref sig .tc := ⟨.hbm, 194, rfl⟩
abbrev main_call2_call0_v0 : Ref sig .tc := ⟨.hbm, 195, rfl⟩
abbrev main_call2_call0_v1 : Ref sig .tc := ⟨.hbm, 196, rfl⟩
abbrev main_v90 : Ref sig .tc := ⟨.hbm, 197, rfl⟩
abbrev main_v91 : Ref sig .tc := ⟨.hbm, 198, rfl⟩
abbrev main_v92 : Ref sig .tc := ⟨.hbm, 199, rfl⟩
abbrev main_v93 : Ref sig .tc := ⟨.hbm, 200, rfl⟩
abbrev main_cst_12 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_cst_13 : Ref sig .tc := ⟨.hbm, 219, rfl⟩
abbrev main_v111 : Ref sig .tc := ⟨.hbm, 220, rfl⟩
abbrev main_cst_14 : Ref sig .tc := ⟨.hbm, 221, rfl⟩
abbrev main_v112 : Ref sig .tc := ⟨.hbm, 222, rfl⟩
abbrev main_v113 : Ref sig .tc := ⟨.hbm, 223, rfl⟩
abbrev main_c_15 : Ref sig .tc := ⟨.hbm, 224, rfl⟩
abbrev main_call3_cst : Ref sig .tc := ⟨.hbm, 225, rfl⟩
abbrev main_call3_v0 : Ref sig .tc := ⟨.hbm, 226, rfl⟩
abbrev main_call3_v1 : Ref sig .tc := ⟨.hbm, 227, rfl⟩
abbrev main_call3_cst_0 : Ref sig .tc := ⟨.hbm, 228, rfl⟩
abbrev main_call3_v2 : Ref sig .tc := ⟨.hbm, 229, rfl⟩
abbrev main_call3_v3 : Ref sig .tc := ⟨.hbm, 230, rfl⟩
abbrev main_call3_v4 : Ref sig .tc := ⟨.hbm, 231, rfl⟩
abbrev main_call3_v5 : Ref sig .tc := ⟨.hbm, 232, rfl⟩
abbrev main_call3_v6 : Ref sig .tc := ⟨.hbm, 233, rfl⟩
abbrev main_call3_v7 : Ref sig .tc := ⟨.hbm, 234, rfl⟩
abbrev main_call3_cst_1 : Ref sig .tc := ⟨.hbm, 235, rfl⟩
abbrev main_call3_v8 : Ref sig .tc := ⟨.hbm, 236, rfl⟩
abbrev main_call3_cst_2 : Ref sig .tc := ⟨.hbm, 237, rfl⟩
abbrev main_call3_v9 : Ref sig .tc := ⟨.hbm, 238, rfl⟩
abbrev main_call3_v10 : Ref sig .tc := ⟨.hbm, 239, rfl⟩
abbrev main_call3_v11 : Ref sig .tc := ⟨.hbm, 240, rfl⟩
abbrev main_call3_cst_3 : Ref sig .tc := ⟨.hbm, 241, rfl⟩
abbrev main_call3_v12 : Ref sig .tc := ⟨.hbm, 242, rfl⟩
abbrev main_call3_cst_4 : Ref sig .tc := ⟨.hbm, 243, rfl⟩
abbrev main_call3_call0_v0 : Ref sig .tc := ⟨.hbm, 244, rfl⟩
abbrev main_call3_call0_v1 : Ref sig .tc := ⟨.hbm, 245, rfl⟩
abbrev main_v114 : Ref sig .tc := ⟨.hbm, 246, rfl⟩
abbrev main_v115 : Ref sig .tc := ⟨.hbm, 247, rfl⟩
abbrev main_v116 : Ref sig .tc := ⟨.hbm, 248, rfl⟩
abbrev main_v117 : Ref sig .tc := ⟨.hbm, 249, rfl⟩
abbrev main_cst_16 : Ref sig .tc := ⟨.hbm, 250, rfl⟩
abbrev main_v118 : Ref sig .tc := ⟨.hbm, 251, rfl⟩
abbrev main_v119 : Ref sig .tc := ⟨.hbm, 252, rfl⟩
abbrev main_v120 : Ref sig .tc := ⟨.hbm, 253, rfl⟩
abbrev main_v121 : Ref sig .tc := ⟨.hbm, 254, rfl⟩
abbrev main_v122 : Ref sig .tc := ⟨.hbm, 255, rfl⟩
abbrev main_v123 : Ref sig .tc := ⟨.hbm, 256, rfl⟩
abbrev main_v124 : Ref sig .tc := ⟨.hbm, 257, rfl⟩
abbrev main_v125 : Ref sig .tc := ⟨.hbm, 258, rfl⟩
abbrev main_v126 : Ref sig .tc := ⟨.hbm, 259, rfl⟩
abbrev main_v127 : Ref sig .tc := ⟨.hbm, 260, rfl⟩
abbrev main_v128 : Ref sig .tc := ⟨.hbm, 261, rfl⟩
abbrev main_v129 : Ref sig .tc := ⟨.hbm, 262, rfl⟩

abbrev nD : Nat := 1
abbrev τ : Topo := Topo.v7x

variable {F : FTy → Type} [FloatOps F]
-- ==== Proof.HostPart.lean ====
/- The host operations that run before the kernel's one launch, in ten stretches, each read off: the 16 nearest
   neighbours, the two gathers, and the two attentions. Every buffer a later stretch reads holds what the reference's
   operation of the same meaning computes from the same arguments, so the launch's second operand is the reference's
   attention output. Each lemma is about an arbitrary contents `W` of the buffers before its stretch. -/
module

public import proofs.«01_k».proof.Proof.Gen.KernelIdeal.Frame
public import proofs.«01_k».proof.Proof.Gen.ReferenceIdeal.Run

@[expose] public section

set_option maxRecDepth 16384

noncomputable section

namespace Cert.HostPart

open Cert.KernelIdeal Cert.KernelIdeal.Gen Idealize.ShloMosaic Idealize.ShloMosaic.TcCoe Idealize.ShloMosaic.StableHlo

variable {F : FTy → Type} [FloatOps F]

/-- The kernel's buffers before a stretch hold the same 26 arguments as the reference's. -/
structure Agree (W : Valuation τ sig (Elt F))
    (V0 : Valuation Cert.ReferenceIdeal.τ Cert.ReferenceIdeal.sig (Elt F)) : Prop where
  a0 : (W (Proc.devRef .tc main_arg0) : Vec F S10000x4 .f32) = V0 (Proc.devRef .tc Cert.ReferenceIdeal.main_arg0)
  a1 : (W (Proc.devRef .tc main_arg1) : Vec F S10000x256 .f32) = V0 (Proc.devRef .tc Cert.ReferenceIdeal.main_arg1)
  a2 : (W (Proc.devRef .tc main_arg2) : Vec F S10000x4 .f32) = V0 (Proc.devRef .tc Cert.ReferenceIdeal.main_arg2)
  a3 : (W (Proc.devRef .tc main_arg3) : Vec F S10000x256 .f32) = V0 (Proc.devRef .tc Cert.ReferenceIdeal.main_arg3)
  a4 : (W (Proc.devRef .tc main_arg4) : Vec F S256x256 .f32) = V0 (Proc.devRef .tc Cert.ReferenceIdeal.main_arg4)
  a5 : (W (Proc.devRef .tc main_arg5) : Vec F S256 .f32) = V0 (Proc.devRef .tc Cert.ReferenceIdeal.main_arg5)
  a6 : (W (Proc.devRef .tc main_arg6) : Vec F S256x256 .f32) = V0 (Proc.devRef .tc Cert.ReferenceIdeal.main_arg6)
  a7 : (W (Proc.devRef .tc main_arg7) : Vec F S256 .f32) = V0 (Proc.devRef .tc Cert.ReferenceIdeal.main_arg7)
  a8 : (W (Proc.devRef .tc main_arg8) : Vec F S256x256 .f32) = V0 (Proc.devRef .tc Cert.ReferenceIdeal.main_arg8)
  a9 : (W (Proc.devRef .tc main_arg9) : Vec F S256 .f32) = V0 (Proc.devRef .tc Cert.ReferenceIdeal.main_arg9)
  a10 : (W (Proc.devRef .tc main_arg10) : Vec F S256x256 .f32) = V0 (Proc.devRef .tc Cert.ReferenceIdeal.main_arg10)
  a11 : (W (Proc.devRef .tc main_arg11) : Vec F S256 .f32) = V0 (Proc.devRef .tc Cert.ReferenceIdeal.main_arg11)
  a12 : (W (Proc.devRef .tc main_arg12) : Vec F S256x256 .f32) = V0 (Proc.devRef .tc Cert.ReferenceIdeal.main_arg12)
  a13 : (W (Proc.devRef .tc main_arg13) : Vec F S256 .f32) = V0 (Proc.devRef .tc Cert.ReferenceIdeal.main_arg13)
  a14 : (W (Proc.devRef .tc main_arg14) : Vec F S256x256 .f32) = V0 (Proc.devRef .tc Cert.ReferenceIdeal.main_arg14)
  a15 : (W (Proc.devRef .tc main_arg15) : Vec F S256 .f32) = V0 (Proc.devRef .tc Cert.ReferenceIdeal.main_arg15)
  a16 : (W (Proc.devRef .tc main_arg16) : Vec F S3x256 .f32) = V0 (Proc.devRef .tc Cert.ReferenceIdeal.main_arg16)
  a17 : (W (Proc.devRef .tc main_arg17) : Vec F S256 .f32) = V0 (Proc.devRef .tc Cert.ReferenceIdeal.main_arg17)
  a18 : (W (Proc.devRef .tc main_arg18) : Vec F S3x256 .f32) = V0 (Proc.devRef .tc Cert.ReferenceIdeal.main_arg18)
  a19 : (W (Proc.devRef .tc main_arg19) : Vec F S256 .f32) = V0 (Proc.devRef .tc Cert.ReferenceIdeal.main_arg19)
  a20 : (W (Proc.devRef .tc main_arg20) : Vec F S256x256 .f32) = V0 (Proc.devRef .tc Cert.ReferenceIdeal.main_arg20)
  a21 : (W (Proc.devRef .tc main_arg21) : Vec F S256 .f32) = V0 (Proc.devRef .tc Cert.ReferenceIdeal.main_arg21)
  a22 : (W (Proc.devRef .tc main_arg22) : Vec F S256 .f32) = V0 (Proc.devRef .tc Cert.ReferenceIdeal.main_arg22)
  a23 : (W (Proc.devRef .tc main_arg23) : Vec F S256 .f32) = V0 (Proc.devRef .tc Cert.ReferenceIdeal.main_arg23)
  a24 : (W (Proc.devRef .tc main_arg24) : Vec F S256 .f32) = V0 (Proc.devRef .tc Cert.ReferenceIdeal.main_arg24)
  a25 : (W (Proc.devRef .tc main_arg25) : Vec F S256 .f32) = V0 (Proc.devRef .tc Cert.ReferenceIdeal.main_arg25)

/-- The arguments' buffers. -/
abbrev args : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

/-- A stretch that writes no argument keeps the agreement. -/
theorem Agree.step {W : Valuation τ sig (Elt F)} {V0 : Valuation Cert.ReferenceIdeal.τ Cert.ReferenceIdeal.sig (Elt F)}
    (h : Agree W V0) (ops : List (HloOp τ sig (Elt F))) {L : List (Ref sig .tc)}
    (hW : ops.Forall fun op => op.writes ⊆ (L.map (Proc.devRef (τ := τ) .tc)).toFinset) (hd : ∀ r ∈ args, r ∉ L) :
    Agree (after ops W) V0 where
  a0 := (after_of_writes_sub ops W hW (hd main_arg0 (by decide))).trans h.a0
  a1 := (after_of_writes_sub ops W hW (hd main_arg1 (by decide))).trans h.a1
  a2 := (after_of_writes_sub ops W hW (hd main_arg2 (by decide))).trans h.a2
  a3 := (after_of_writes_sub ops W hW (hd main_arg3 (by decide))).trans h.a3
  a4 := (after_of_writes_sub ops W hW (hd main_arg4 (by decide))).trans h.a4
  a5 := (after_of_writes_sub ops W hW (hd main_arg5 (by decide))).trans h.a5
  a6 := (after_of_writes_sub ops W hW (hd main_arg6 (by decide))).trans h.a6
  a7 := (after_of_writes_sub ops W hW (hd main_arg7 (by decide))).trans h.a7
  a8 := (after_of_writes_sub ops W hW (hd main_arg8 (by decide))).trans h.a8
  a9 := (after_of_writes_sub ops W hW (hd main_arg9 (by decide))).trans h.a9
  a10 := (after_of_writes_sub ops W hW (hd main_arg10 (by decide))).trans h.a10
  a11 := (after_of_writes_sub ops W hW (hd main_arg11 (by decide))).trans h.a11
  a12 := (after_of_writes_sub ops W hW (hd main_arg12 (by decide))).trans h.a12
  a13 := (after_of_writes_sub ops W hW (hd main_arg13 (by decide))).trans h.a13
  a14 := (after_of_writes_sub ops W hW (hd main_arg14 (by decide))).trans h.a14
  a15 := (after_of_writes_sub ops W hW (hd main_arg15 (by decide))).trans h.a15
  a16 := (after_of_writes_sub ops W hW (hd main_arg16 (by decide))).trans h.a16
  a17 := (after_of_writes_sub ops W hW (hd main_arg17 (by decide))).trans h.a17
  a18 := (after_of_writes_sub ops W hW (hd main_arg18 (by decide))).trans h.a18
  a19 := (after_of_writes_sub ops W hW (hd main_arg19 (by decide))).trans h.a19
  a20 := (after_of_writes_sub ops W hW (hd main_arg20 (by decide))).trans h.a20
  a21 := (after_of_writes_sub ops W hW (hd main_arg21 (by decide))).trans h.a21
  a22 := (after_of_writes_sub ops W hW (hd main_arg22 (by decide))).trans h.a22
  a23 := (after_of_writes_sub ops W hW (hd main_arg23 (by decide))).trans h.a23
  a24 := (after_of_writes_sub ops W hW (hd main_arg24 (by decide))).trans h.a24
  a25 := (after_of_writes_sub ops W hW (hd main_arg25 (by decide))).trans h.a25

/-! ## The stretches and the buffers they write -/

/-- The scores of the first attention. -/
abbrev att0Ops : List (HloOp τ sig (Elt F)) := hostOps0_4.take 13
/-- The exponentials of the first attention. -/
abbrev att1Ops : List (HloOp τ sig (Elt F)) := (hostOps0_4.drop 13).take 9
/-- The first attention's output and the second's keys. -/
abbrev att2Ops : List (HloOp τ sig (Elt F)) := (hostOps0_4.drop 22).take 19
/-- The scores of the second attention. -/
abbrev att3Ops : List (HloOp τ sig (Elt F)) := (hostOps0_4.drop 41).take 8
/-- The exponentials of the second attention. -/
abbrev att4Ops : List (HloOp τ sig (Elt F)) := (hostOps0_4.drop 49).take 9
/-- The second attention's output and the parameter rows. -/
abbrev att5Ops : List (HloOp τ sig (Elt F)) := hostOps0_4.drop 58
/-- What `hostOps0` writes. -/
abbrev knnW : List (Ref sig .tc) :=
  [main_v0, main_cst, main_v1, main_v2, main_v3, main_cst_0, main_v4, main_v5, main_v6, main_v7, main_v8, main_v9, main_v10, main_cst_1, main_v11, main_v12, main_v13, main_v14, main_values, main_indices, main_v15, main_v16]
theorem knn_writes : (hostOps0 : List (HloOp τ sig (Elt F))).Forall fun op =>
    op.writes ⊆ (knnW.map (Proc.devRef (τ := τ) .tc)).toFinset := forall_writes_sub_of_map rfl
/-- What `hostOps0_1` writes. -/
abbrev take0W : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v17]
theorem take0_writes : (hostOps0_1 : List (HloOp τ sig (Elt F))).Forall fun op =>
    op.writes ⊆ (take0W.map (Proc.devRef (τ := τ) .tc)).toFinset := forall_writes_sub_of_map rfl
/-- What `hostOps0_2` writes. -/
abbrev offsW : List (Ref sig .tc) :=
  [main_v18, main_v19, main_v20, main_v21, main_v22, main_v23, main_v24]
theorem offs_writes : (hostOps0_2 : List (HloOp τ sig (Elt F))).Forall fun op =>
    op.writes ⊆ (offsW.map (Proc.devRef (τ := τ) .tc)).toFinset := forall_writes_sub_of_map rfl
/-- What `hostOps0_3` writes. -/
abbrev take1W : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v25]
theorem take1_writes : (hostOps0_3 : List (HloOp τ sig (Elt F))).Forall fun op =>
    op.writes ⊆ (take1W.map (Proc.devRef (τ := τ) .tc)).toFinset := forall_writes_sub_of_map rfl
/-- What `att0Ops` writes. -/
abbrev att0W : List (Ref sig .tc) :=
  [main_v26, main_v27, main_v28, main_v29, main_v30, main_v31, main_v32, main_v33, main_v34, main_v35, main_cst_2, main_v36, main_v37]
theorem att0_writes : (att0Ops : List (HloOp τ sig (Elt F))).Forall fun op =>
    op.writes ⊆ (att0W.map (Proc.devRef (τ := τ) .tc)).toFinset := forall_writes_sub_of_map rfl
/-- What `att1Ops` writes. -/
abbrev att1W : List (Ref sig .tc) :=
  [main_cst_3, main_v38, main_cst_4, main_v39, main_v40, main_v41, main_v42, main_v43, main_v44]
theorem att1_writes : (att1Ops : List (HloOp τ sig (Elt F))).Forall fun op =>
    op.writes ⊆ (att1W.map (Proc.devRef (τ := τ) .tc)).toFinset := forall_writes_sub_of_map rfl
/-- What `att2Ops` writes. -/
abbrev att2W : List (Ref sig .tc) :=
  [main_cst_5, main_v45, main_v46, main_v47, main_v48, main_v49, main_v50, main_v51, main_v52, main_v53, main_v54, main_v55, main_v56, main_v57, main_v58, main_v59, main_v60, main_v61, main_v62]
theorem att2_writes : (att2Ops : List (HloOp τ sig (Elt F))).Forall fun op =>
    op.writes ⊆ (att2W.map (Proc.devRef (τ := τ) .tc)).toFinset := forall_writes_sub_of_map rfl
/-- What `att3Ops` writes. -/
abbrev att3W : List (Ref sig .tc) :=
  [main_v63, main_v64, main_v65, main_v66, main_v67, main_cst_6, main_v68, main_v69]
theorem att3_writes : (att3Ops : List (HloOp τ sig (Elt F))).Forall fun op =>
    op.writes ⊆ (att3W.map (Proc.devRef (τ := τ) .tc)).toFinset := forall_writes_sub_of_map rfl
/-- What `att4Ops` writes. -/
abbrev att4W : List (Ref sig .tc) :=
  [main_cst_7, main_v70, main_cst_8, main_v71, main_v72, main_v73, main_v74, main_v75, main_v76]
theorem att4_writes : (att4Ops : List (HloOp τ sig (Elt F))).Forall fun op =>
    op.writes ⊆ (att4W.map (Proc.devRef (τ := τ) .tc)).toFinset := forall_writes_sub_of_map rfl
/-- What `att5Ops` writes. -/
abbrev att5W : List (Ref sig .tc) :=
  [main_cst_9, main_v77, main_v78, main_v79, main_v80, main_v81, main_v82, main_v83, main_v84, main_v85, main_v86, main_v87, main_v88, main_v89, main_v90, main_v91]
theorem att5_writes : (att5Ops : List (HloOp τ sig (Elt F))).Forall fun op =>
    op.writes ⊆ (att5W.map (Proc.devRef (τ := τ) .tc)).toFinset := forall_writes_sub_of_map rfl

end Cert.HostPart
-- ==== Proof.Neighbours.lean ====
/- The first stretches of the kernel's host operations: the nearest neighbours and the two gathers hold what the
   reference's operations compute. -/
module

public import proofs.«01_k».proof.Proof.HostPart

@[expose] public section

set_option maxRecDepth 16384
set_option maxHeartbeats 2000000

noncomputable section

namespace Cert.HostPart

open Cert.KernelIdeal Cert.KernelIdeal.Gen Idealize.ShloMosaic Idealize.ShloMosaic.TcCoe Idealize.ShloMosaic.StableHlo
open Cert.ReferenceIdeal.Value (res_main_v14 res_main_indices res_main_call0_v5 res_main_v20 res_main_call1_v5 res_main_v25)

variable {F : FTy → Type} [FloatOps F]
variable {W : Valuation τ sig (Elt F)} {V0 : Valuation Cert.ReferenceIdeal.τ Cert.ReferenceIdeal.sig (Elt F)}

/-- The neighbours' indices are the reference's. -/
theorem knn_indices (h : Agree W V0) :
    (after hostOps0 W (Proc.devRef .tc main_indices) : IVec S10000x16 32) = res_main_indices V0 := by
  simp only [hostOps0]
  after_results_simp
  rw [h.a0, h.a2]
  rfl

/-- The query points' last three coordinates. -/
theorem knn_v15 (h : Agree W V0) :
    (after hostOps0 W (Proc.devRef .tc main_v15) : Vec F S10000x3 .f32)
      = extractStridedSlice S10000x3 ![0, 1] (V0 (Proc.devRef .tc Cert.ReferenceIdeal.main_arg2) : Vec F S10000x4 .f32)
          slices_S10000x4_S10000x3_0_1 := by
  simp only [hostOps0]
  after_results_simp
  rw [h.a2]

/-- The source points' last three coordinates. -/
theorem knn_v16 (h : Agree W V0) :
    (after hostOps0 W (Proc.devRef .tc main_v16) : Vec F S10000x3 .f32)
      = extractStridedSlice S10000x3 ![0, 1] (V0 (Proc.devRef .tc Cert.ReferenceIdeal.main_arg0) : Vec F S10000x4 .f32)
          slices_S10000x4_S10000x3_0_1 := by
  simp only [hostOps0]
  after_results_simp
  rw [h.a0]

/-- The neighbours' offsets from the query points are the reference's, the gather and the subtraction taken together. -/
theorem offs_v20
    (hi : (W (Proc.devRef .tc main_indices) : IVec S10000x16 32) = res_main_indices V0)
    (h15 : (W (Proc.devRef .tc main_v15) : Vec F S10000x3 .f32)
      = extractStridedSlice S10000x3 ![0, 1] (V0 (Proc.devRef .tc Cert.ReferenceIdeal.main_arg2) : Vec F S10000x4 .f32)
          slices_S10000x4_S10000x3_0_1)
    (h16 : (W (Proc.devRef .tc main_v16) : Vec F S10000x3 .f32)
      = extractStridedSlice S10000x3 ![0, 1] (V0 (Proc.devRef .tc Cert.ReferenceIdeal.main_arg0) : Vec F S10000x4 .f32)
          slices_S10000x4_S10000x3_0_1) :
    (after hostOps0_2 (after hostOps0_1 W) (Proc.devRef .tc main_v20) : Vec F S10000x16x3 .f32) = res_main_v20 V0 := by
  rw [← after_append]
  simp only [hostOps0_1, hostOps0_2, TRef.binary, TRef.nullary, TRef.ternary, TRef.unary, TRef.toBuf, TRef.ofBuf, cast_eq,
    List.cons_append, List.nil_append]
  after_results_simp
  rw [hi, h15, h16]
  rfl

/-- The offsets' embedding for the first attention. -/
theorem offs_v24 (h : Agree W V0)
    (h20 : (after hostOps0_2 W (Proc.devRef .tc main_v20) : Vec F S10000x16x3 .f32) = res_main_v20 V0) :
    (after hostOps0_2 W (Proc.devRef .tc main_v24) : Vec F S10000x16x256 .f32)
      = addf (Host.dotGeneral dot_S10000x16x3_S3x256_S10000x16x256_2_0_01_1_n_n none (res_main_v20 V0)
            (V0 (Proc.devRef .tc Cert.ReferenceIdeal.main_arg16) : Vec F S3x256 .f32))
          (broadcastInDim S10000x16x256 ![0, 1, 2] bcast_S1x1x256_S10000x16x256_0_1_2
            (broadcastInDim S1x1x256 ![2] bcast_S256_S1x1x256_2
              (V0 (Proc.devRef .tc Cert.ReferenceIdeal.main_arg17) : Vec F S256 .f32))) := by
  rw [← h20, ← h.a16, ← h.a17]
  simp only [hostOps0_2]
  after_results_simp

/-- The gathered features are the reference's. -/
theorem take1_v25 (h : Agree W V0)
    (hi : (W (Proc.devRef .tc main_indices) : IVec S10000x16 32) = res_main_indices V0) :
    (after hostOps0_3 W (Proc.devRef .tc main_v25) : Vec F S10000x16x256 .f32) = res_main_v25 V0 := by
  simp only [hostOps0_3, TRef.binary, TRef.nullary, TRef.ternary, TRef.unary, TRef.toBuf, TRef.ofBuf, cast_eq]
  after_results_simp
  rw [hi, h.a1]
  rfl

end Cert.HostPart
-- ==== Proof.Attention.lean ====
/- The last stretches of the kernel's host operations: the two attentions hold what the reference's operations compute,
   and the five parameter vectors are stacked as the rows of one array. -/
module

public import proofs.«01_k».proof.Proof.Neighbours

@[expose] public section

set_option maxRecDepth 16384
set_option maxHeartbeats 2000000

noncomputable section

namespace Cert.HostPart

open Cert.KernelIdeal Cert.KernelIdeal.Gen Idealize.ShloMosaic Idealize.ShloMosaic.TcCoe Idealize.ShloMosaic.StableHlo
open Cert.ReferenceIdeal.Value (res_main_v20 res_main_v25 res_main_v30 res_main_v37 res_main_v44 res_main_v62 res_main_v69
  res_main_v76 res_main_v86)

variable {F : FTy → Type} [FloatOps F]
variable {W : Valuation τ sig (Elt F)} {V0 : Valuation Cert.ReferenceIdeal.τ Cert.ReferenceIdeal.sig (Elt F)}

/-- An array of 10000 by 16 vectors plus one vector everywhere. -/
abbrev spread3 (b : Vec F S256 .f32) : FVec F S10000x16x256 .f32 :=
  broadcastInDim S10000x16x256 ![0, 1, 2] bcast_S1x1x256_S10000x16x256_0_1_2
    (broadcastInDim S1x1x256 ![2] bcast_S256_S1x1x256_2 b)

/-- The reference's embedding of the offsets for the first attention. -/
def emb (V0 : Valuation Cert.ReferenceIdeal.τ Cert.ReferenceIdeal.sig (Elt F)) : FVec F S10000x16x256 .f32 :=
  addf (Host.dotGeneral dot_S10000x16x3_S3x256_S10000x16x256_2_0_01_1_n_n none (res_main_v20 V0)
      (V0 (Proc.devRef .tc Cert.ReferenceIdeal.main_arg16) : Vec F S3x256 .f32))
    (spread3 (V0 (Proc.devRef .tc Cert.ReferenceIdeal.main_arg17) : Vec F S256 .f32))

/-- The first attention's keys' input. -/
theorem att0_v30
    (h24 : (W (Proc.devRef .tc main_v24) : Vec F S10000x16x256 .f32) = emb V0)
    (h25 : (W (Proc.devRef .tc main_v25) : Vec F S10000x16x256 .f32) = res_main_v25 V0) :
    (after att0Ops W (Proc.devRef .tc main_v30) : Vec F S10000x16x256 .f32) = res_main_v30 V0 := by
  simp only [att0Ops, hostOps0_4, List.take]
  after_results_simp
  rw [h24, h25]
  rfl

/-- The first attention's scores. -/
theorem att0_v37 (h : Agree W V0)
    (h24 : (W (Proc.devRef .tc main_v24) : Vec F S10000x16x256 .f32) = emb V0)
    (h25 : (W (Proc.devRef .tc main_v25) : Vec F S10000x16x256 .f32) = res_main_v25 V0) :
    (after att0Ops W (Proc.devRef .tc main_v37) : Vec F S10000x16 .f32) = res_main_v37 V0 := by
  simp only [att0Ops, hostOps0_4, List.take]
  after_results_simp
  rw [h24, h25, h.a3, h.a4, h.a5, h.a6, h.a7]
  rfl

/-- The exponentials of the first attention's scores. -/
theorem att1_v44 (h37 : (W (Proc.devRef .tc main_v37) : Vec F S10000x16 .f32) = res_main_v37 V0) :
    (after att1Ops W (Proc.devRef .tc main_v44) : Vec F S10000x16 .f32) = res_main_v44 V0 := by
  simp only [att1Ops, hostOps0_4, List.take, List.drop]
  after_results_simp
  rw [h37]
  rfl

/-- The second attention's keys' input. -/
theorem att2_v62 (h : Agree W V0)
    (h20 : (W (Proc.devRef .tc main_v20) : Vec F S10000x16x3 .f32) = res_main_v20 V0)
    (h25 : (W (Proc.devRef .tc main_v25) : Vec F S10000x16x256 .f32) = res_main_v25 V0) :
    (after att2Ops W (Proc.devRef .tc main_v62) : Vec F S10000x16x256 .f32) = res_main_v62 V0 := by
  simp only [att2Ops, hostOps0_4, List.take, List.drop]
  after_results_simp
  rw [h20, h25, h.a18, h.a19]
  rfl

/-- The reference's queries of the second attention: the first attention's output through a linear layer. -/
def query2 (V0 : Valuation Cert.ReferenceIdeal.τ Cert.ReferenceIdeal.sig (Elt F)) : FVec F S10000x256 .f32 :=
  addf
    (Host.dotGeneral dot_S10000x256_S256x256_S10000x256_1_0_0_1_n_n none
      (Host.dotGeneral dot_S10000x16_S10000x16x256_S10000x256_1_1_n_2_0_0 none
        (Host.divf (res_main_v44 V0)
          (broadcastInDim S10000x16 ![0, 1] bcast_S10000x1_S10000x16_0_1
            (broadcastInDim S10000x1 ![0] bcast_S10000_S10000x1_0
              (Host.reduceAdd (res_main_v44 V0) (constant (F := F) S_ .f32 0x00000000#32) reducesTo_S10000x16_S10000_d1 h_S_))))
        (addf (Host.dotGeneral dot_S10000x16x256_S256x256_S10000x16x256_2_0_01_1_n_n none (res_main_v30 V0)
            (V0 (Proc.devRef .tc Cert.ReferenceIdeal.main_arg8) : Vec F S256x256 .f32))
          (spread3 (V0 (Proc.devRef .tc Cert.ReferenceIdeal.main_arg9) : Vec F S256 .f32))))
      (V0 (Proc.devRef .tc Cert.ReferenceIdeal.main_arg10) : Vec F S256x256 .f32))
    (broadcastInDim S10000x256 ![0, 1] bcast_S1x256_S10000x256_0_1
      (broadcastInDim S1x256 ![1] bcast_S256_S1x256_1 (V0 (Proc.devRef .tc Cert.ReferenceIdeal.main_arg11) : Vec F S256 .f32)))

/-- The second attention's queries. -/
theorem att2_v61 (h : Agree W V0)
    (h30 : (W (Proc.devRef .tc main_v30) : Vec F S10000x16x256 .f32) = res_main_v30 V0)
    (h44 : (W (Proc.devRef .tc main_v44) : Vec F S10000x16 .f32) = res_main_v44 V0) :
    (after att2Ops W (Proc.devRef .tc main_v61) : Vec F S10000x256 .f32) = query2 V0 := by
  simp only [att2Ops, hostOps0_4, List.take, List.drop]
  after_results_simp
  rw [h30, h44, h.a8, h.a9, h.a10, h.a11]
  rfl

/-- The second attention's scores. -/
theorem att3_v69 (h : Agree W V0)
    (h61 : (W (Proc.devRef .tc main_v61) : Vec F S10000x256 .f32) = query2 V0)
    (h62 : (W (Proc.devRef .tc main_v62) : Vec F S10000x16x256 .f32) = res_main_v62 V0) :
    (after att3Ops W (Proc.devRef .tc main_v69) : Vec F S10000x16 .f32) = res_main_v69 V0 := by
  simp only [att3Ops, hostOps0_4, List.take, List.drop]
  after_results_simp
  rw [h61, h62, h.a12, h.a13]
  rfl

/-- The exponentials of the second attention's scores. -/
theorem att4_v76 (h69 : (W (Proc.devRef .tc main_v69) : Vec F S10000x16 .f32) = res_main_v69 V0) :
    (after att4Ops W (Proc.devRef .tc main_v76) : Vec F S10000x16 .f32) = res_main_v76 V0 := by
  simp only [att4Ops, hostOps0_4, List.take, List.drop]
  after_results_simp
  rw [h69]
  rfl

/-- The second attention's output is the array the reference adds to its fourth argument. -/
theorem att5_v85 (h : Agree W V0)
    (h62 : (W (Proc.devRef .tc main_v62) : Vec F S10000x16x256 .f32) = res_main_v62 V0)
    (h76 : (W (Proc.devRef .tc main_v76) : Vec F S10000x16 .f32) = res_main_v76 V0) :
    addf (V0 (Proc.devRef .tc Cert.ReferenceIdeal.main_arg3) : Vec F S10000x256 .f32)
      (after att5Ops W (Proc.devRef .tc main_v85) : Vec F S10000x256 .f32) = res_main_v86 V0 := by
  simp only [att5Ops, hostOps0_4, List.drop]
  after_results_simp
  rw [h62, h76, h.a14, h.a15]
  rfl

/-- The five vectors as rows, stacked. -/
def stack (v0 v1 v2 v3 v4 : Vec F S256 .f32) : Vec F S5x256 .f32 :=
  concatenate S5x256 0
    [⟨S1x256, broadcastInDim S1x256 ![1] bcast_S256_S1x256_1 v0⟩, ⟨S1x256, broadcastInDim S1x256 ![1] bcast_S256_S1x256_1 v1⟩,
     ⟨S1x256, broadcastInDim S1x256 ![1] bcast_S256_S1x256_1 v2⟩, ⟨S1x256, broadcastInDim S1x256 ![1] bcast_S256_S1x256_1 v3⟩,
     ⟨S1x256, broadcastInDim S1x256 ![1] bcast_S256_S1x256_1 v4⟩]
    concatenates_S1x256_S1x256_S1x256_S1x256_S1x256_S5x256_d0

/-- The operations that make the five rows, after the second attention's own. -/
abbrev rowOps : List (HloOp τ sig (Elt F)) := att5Ops.take 15

/-- The launch's fourth operand is the stack of the last five arguments. -/
theorem att5_v91 (h : Agree W V0) :
    (after att5Ops W (Proc.devRef .tc main_v91) : Vec F S5x256 .f32)
      = stack (V0 (Proc.devRef .tc Cert.ReferenceIdeal.main_arg21)) (V0 (Proc.devRef .tc Cert.ReferenceIdeal.main_arg22))
          (V0 (Proc.devRef .tc Cert.ReferenceIdeal.main_arg23)) (V0 (Proc.devRef .tc Cert.ReferenceIdeal.main_arg24))
          (V0 (Proc.devRef .tc Cert.ReferenceIdeal.main_arg25)) := by
  have h86 : (after rowOps W (Proc.devRef .tc main_v86) : Vec F S1x256 .f32)
      = broadcastInDim S1x256 ![1] bcast_S256_S1x256_1 (V0 (Proc.devRef .tc Cert.ReferenceIdeal.main_arg21) : Vec F S256 .f32) := by
    simp only [rowOps, att5Ops, hostOps0_4, List.take, List.drop]; after_results_simp; rw [h.a21]
  have h87 : (after rowOps W (Proc.devRef .tc main_v87) : Vec F S1x256 .f32)
      = broadcastInDim S1x256 ![1] bcast_S256_S1x256_1 (V0 (Proc.devRef .tc Cert.ReferenceIdeal.main_arg22) : Vec F S256 .f32) := by
    simp only [rowOps, att5Ops, hostOps0_4, List.take, List.drop]; after_results_simp; rw [h.a22]
  have h88 : (after rowOps W (Proc.devRef .tc main_v88) : Vec F S1x256 .f32)
      = broadcastInDim S1x256 ![1] bcast_S256_S1x256_1 (V0 (Proc.devRef .tc Cert.ReferenceIdeal.main_arg23) : Vec F S256 .f32) := by
    simp only [rowOps, att5Ops, hostOps0_4, List.take, List.drop]; after_results_simp; rw [h.a23]
  have h89 : (after rowOps W (Proc.devRef .tc main_v89) : Vec F S1x256 .f32)
      = broadcastInDim S1x256 ![1] bcast_S256_S1x256_1 (V0 (Proc.devRef .tc Cert.ReferenceIdeal.main_arg24) : Vec F S256 .f32) := by
    simp only [rowOps, att5Ops, hostOps0_4, List.take, List.drop]; after_results_simp; rw [h.a24]
  have h90 : (after rowOps W (Proc.devRef .tc main_v90) : Vec F S1x256 .f32)
      = broadcastInDim S1x256 ![1] bcast_S256_S1x256_1 (V0 (Proc.devRef .tc Cert.ReferenceIdeal.main_arg25) : Vec F S256 .f32) := by
    simp only [rowOps, att5Ops, hostOps0_4, List.take, List.drop]; after_results_simp; rw [h.a25]
  rw [show (att5Ops : List (HloOp τ sig (Elt F))) = rowOps ++ att5Ops.drop 15 from (List.take_append_drop 15 att5Ops).symm,
    after_append]
  generalize after rowOps W = W' at h86 h87 h88 h89 h90 ⊢
  simp only [att5Ops, hostOps0_4, List.drop, after_cons, after_nil]
  rw [nary_result]
  show concatenate S5x256 0
    [⟨S1x256, (W' (Proc.devRef .tc main_v86) : Vec F S1x256 .f32)⟩, ⟨S1x256, (W' (Proc.devRef .tc main_v87) : Vec F S1x256 .f32)⟩,
     ⟨S1x256, (W' (Proc.devRef .tc main_v88) : Vec F S1x256 .f32)⟩, ⟨S1x256, (W' (Proc.devRef .tc main_v89) : Vec F S1x256 .f32)⟩,
     ⟨S1x256, (W' (Proc.devRef .tc main_v90) : Vec F S1x256 .f32)⟩] _ = _
  rw [h86, h87, h88, h89, h90]
  rfl

/-! ## All the stretches -/

/-- What the launch finds: the agreement of the arguments, the reference's attention output and the stack. -/
theorem prefix_reads (h : Agree W V0) :
    addf (V0 (Proc.devRef .tc Cert.ReferenceIdeal.main_arg3) : Vec F S10000x256 .f32)
        (after (List.flatten [hostOps0, hostOps0_1, hostOps0_2, hostOps0_3, hostOps0_4]) W (Proc.devRef .tc main_v85)
          : Vec F S10000x256 .f32) = res_main_v86 V0
    ∧ (after (List.flatten [hostOps0, hostOps0_1, hostOps0_2, hostOps0_3, hostOps0_4]) W (Proc.devRef .tc main_v91)
          : Vec F S5x256 .f32)
      = stack (V0 (Proc.devRef .tc Cert.ReferenceIdeal.main_arg21)) (V0 (Proc.devRef .tc Cert.ReferenceIdeal.main_arg22))
          (V0 (Proc.devRef .tc Cert.ReferenceIdeal.main_arg23)) (V0 (Proc.devRef .tc Cert.ReferenceIdeal.main_arg24))
          (V0 (Proc.devRef .tc Cert.ReferenceIdeal.main_arg25)) := by
  have e4 : (hostOps0_4 : List (HloOp τ sig (Elt F))) = att0Ops ++ (att1Ops ++ (att2Ops ++ (att3Ops ++ (att4Ops ++ att5Ops)))) :=
    rfl
  simp only [List.flatten_cons, List.flatten_nil, List.append_nil, after_append]
  rw [e4]
  simp only [after_append]
  -- the neighbours
  have hi := knn_indices h
  have h15 := knn_v15 h
  have h16 := knn_v16 h
  replace h := h.step hostOps0 knn_writes (by decide)
  generalize after hostOps0 W = W at hi h15 h16 h ⊢
  -- the first gather and the offsets
  have h20 := offs_v20 hi h15 h16
  replace hi := (after_of_writes_sub hostOps0_1 W take0_writes (r := main_indices) (by decide)).trans hi
  replace h := h.step hostOps0_1 take0_writes (by decide)
  generalize after hostOps0_1 W = W at h20 hi h ⊢
  have h24 := offs_v24 h h20
  replace hi := (after_of_writes_sub hostOps0_2 W offs_writes (r := main_indices) (by decide)).trans hi
  replace h := h.step hostOps0_2 offs_writes (by decide)
  generalize after hostOps0_2 W = W at h20 h24 hi h ⊢
  -- the second gather
  have h25 := take1_v25 h hi
  replace h20 := (after_of_writes_sub hostOps0_3 W take1_writes (r := main_v20) (by decide)).trans h20
  replace h24 := (after_of_writes_sub hostOps0_3 W take1_writes (r := main_v24) (by decide)).trans h24
  replace h := h.step hostOps0_3 take1_writes (by decide)
  generalize after hostOps0_3 W = W at h20 h24 h25 h ⊢
  -- the first attention
  have h30 := att0_v30 h24 h25
  have h37 := att0_v37 h h24 h25
  replace h20 := (after_of_writes_sub att0Ops W att0_writes (r := main_v20) (by decide)).trans h20
  replace h25 := (after_of_writes_sub att0Ops W att0_writes (r := main_v25) (by decide)).trans h25
  replace h := h.step att0Ops att0_writes (by decide)
  generalize after att0Ops W = W at h20 h25 h30 h37 h ⊢
  have h44 := att1_v44 h37
  replace h20 := (after_of_writes_sub att1Ops W att1_writes (r := main_v20) (by decide)).trans h20
  replace h25 := (after_of_writes_sub att1Ops W att1_writes (r := main_v25) (by decide)).trans h25
  replace h30 := (after_of_writes_sub att1Ops W att1_writes (r := main_v30) (by decide)).trans h30
  replace h := h.step att1Ops att1_writes (by decide)
  generalize after att1Ops W = W at h20 h25 h30 h44 h ⊢
  have h61 := att2_v61 h h30 h44
  have h62 := att2_v62 h h20 h25
  replace h := h.step att2Ops att2_writes (by decide)
  generalize after att2Ops W = W at h61 h62 h ⊢
  -- the second attention
  have h69 := att3_v69 h h61 h62
  replace h62 := (after_of_writes_sub att3Ops W att3_writes (r := main_v62) (by decide)).trans h62
  replace h := h.step att3Ops att3_writes (by decide)
  generalize after att3Ops W = W at h69 h62 h ⊢
  have h76 := att4_v76 h69
  replace h62 := (after_of_writes_sub att4Ops W att4_writes (r := main_v62) (by decide)).trans h62
  replace h := h.step att4Ops att4_writes (by decide)
  generalize after att4Ops W = W at h76 h62 h ⊢
  exact ⟨att5_v85 h h62 h76, att5_v91 h⟩

end Cert.HostPart
-- ==== Proof.Norm.lean ====
/- The normalisation over the rows that the kernel and the reference both take twice: for each column, the mean and the
   variance of the 10000 entries, then the centred entry divided by the square root of the variance plus a small
   constant, scaled and shifted. The kernel multiplies by the reciprocal square root, the reference divides by the square
   root; over the extended reals the two agree because the variance is never negative. -/
module

public import proofs.«01_k».proof.Proof.Gen.KernelIdeal.Skeleton
public import proofs.«01_k».proof.Proof.Gen.ReferenceIdeal.Run
public import Idealize.ShloMosaic.Lib.Pointwise
public import Idealize.ShloMosaic.Lib.IdealHost

@[expose] public section

set_option maxRecDepth 16384

noncomputable section

namespace Cert.Norm

open Idealize.ShloMosaic
open scoped BigOperators

/-- A column of 10000 entries, its mean. -/
def mean (f : Fin 10000 → EReal) : EReal := Ideal.div (∑ r, f r) (Ideal.ofBits .f32 0x461C4000#32)

/-- A column's variance: the mean of the squared distances from the mean. -/
def var (f : Fin 10000 → EReal) : EReal :=
  Ideal.div (∑ r, (f r - mean f) * (f r - mean f)) (Ideal.ofBits .f32 0x461C4000#32)

section kernel

open Cert.KernelIdeal Cert.KernelIdeal.Gen

/-- The kernel's normalisation of an array by a row of scales and a row of shifts. -/
def kNorm (y : FVec Ideal S10000x256 .f32) (g b : FVec Ideal S1x256 .f32) : FVec Ideal S10000x256 .f32 :=
  k0_pay1 y (shapeCast S1x256 (multiReduction .add [0] S256 y 0x00000000#32 reduces_S10000x256_S256 (.inl rfl) rfl)
    shapeCasts_S256_S1x256) k0_pay4 g b

set_option backward.isDefEq.respectTransparency false in
/-- The kernel's normalisation at an entry. -/
theorem kNorm_apply (y : FVec Ideal S10000x256 .f32) (g b : FVec Ideal S1x256 .f32) (r : Fin 10000) (l : Fin 256) :
    kNorm y g b (ix2 r l)
      = (y (ix2 r l) - mean fun k => y (ix2 k l))
          * Ideal.rsqrt (var (fun k => y (ix2 k l)) + Ideal.ofBits .f32 0x3727C5AC#32) * g (ix2 0 l) + b (ix2 0 l) := by
  pointwise [kNorm, k0_pay1, k0_pay4]
  rfl

end kernel

section reference

open Cert.ReferenceIdeal Cert.ReferenceIdeal.Gen

/-- The reference's centred array inside its variance: the mean is taken as a row. -/
def rCentred (y : FVec Ideal S10000x256 .f32) : FVec Ideal S10000x256 .f32 :=
  subf y (broadcastInDim S10000x256 ![0, 1] bcast_S1x256_S10000x256_0_1
    (Host.divf (broadcastInDim S1x256 ![1] bcast_S256_S1x256_1
        (Host.reduceAdd y (constant (F := Ideal) S_ .f32 0x00000000#32)
          reducesTo_S10000x256_S256_d0 h_S_))
      (broadcastInDim S1x256 ![] bcast_S_S1x256
        (constant (F := Ideal) S_ .f32 0x461C4000#32))))

/-- The reference's divisor inside its variance: the number of rows less a zero correction. -/
def rCount : FVec Ideal S_ .f32 :=
  subf (constant (F := Ideal) S_ .f32 0x461C4000#32)
    (sitofp .f32 (constantI S_ 32 0#32))

/-- The reference's normalisation of an array by a vector of scales and a vector of shifts. Its variance is guarded:
    a divisor that is not positive would give a fill value instead. -/
def rNorm (y : FVec Ideal S10000x256 .f32) (g b : FVec Ideal S256 .f32) : FVec Ideal S10000x256 .f32 :=
  addf (mulf (Host.divf
    (subf y (broadcastInDim S10000x256 ![0, 1] bcast_S1x256_S10000x256_0_1 (broadcastInDim S1x256 ![1] bcast_S256_S1x256_1
      (Host.divf (Host.reduceAdd y (constant (F := Ideal) S_ .f32 0x00000000#32)
          reducesTo_S10000x256_S256_d0 h_S_)
        (broadcastInDim S256 ![] bcast_S_S256 (constant (F := Ideal) S_ .f32 0x461C4000#32))))))
    (broadcastInDim S10000x256 ![0, 1] bcast_S1x256_S10000x256_0_1 (broadcastInDim S1x256 ![1] bcast_S256_S1x256_1
      (Host.sqrt (addf
        (select
          (broadcastInDim S256 ![] bcast_S_S256
            (cmpf .ogt rCount (constant (F := Ideal) S_ .f32 0x00000000#32)))
          (Host.divf
            (Host.reduceAdd (mulf (rCentred y) (rCentred y)) (constant (F := Ideal) S_ .f32 0x00000000#32)
              reducesTo_S10000x256_S256_d0 h_S_)
            (broadcastInDim S256 ![] bcast_S_S256 rCount))
          (broadcastInDim S256 ![] bcast_S_S256 (id (constant (F := Ideal) S_ .f32 0x7FC00000#32))))
        (broadcastInDim S256 ![] bcast_S_S256 (constant (F := Ideal) S_ .f32 0x3727C5AC#32)))))))
    (broadcastInDim S10000x256 ![0, 1] bcast_S1x256_S10000x256_0_1 (broadcastInDim S1x256 ![1] bcast_S256_S1x256_1 g)))
    (broadcastInDim S10000x256 ![0, 1] bcast_S1x256_S10000x256_0_1 (broadcastInDim S1x256 ![1] bcast_S256_S1x256_1 b))

/-- The bits of ten thousand denote ten thousand. -/
theorem ofBits_count : Ideal.ofBits .f32 0x461C4000#32 = ((10000 : ℝ) : EReal) := by
  simp [Ideal.ofBits, Ideal.ieee]
  rw [← EReal.coe_mul]
  norm_num

/-- The number of rows is positive. -/
theorem count_pos : 0 < Ideal.ofBits .f32 0x461C4000#32 := by
  rw [ofBits_count, EReal.coe_pos]; norm_num

/-- The small constant added to a variance is positive. -/
theorem eps_pos : 0 < Ideal.ofBits .f32 0x3727C5AC#32 := by
  simp [Ideal.ofBits, Ideal.ieee]
  rw [← EReal.coe_mul, EReal.coe_pos]
  norm_num

set_option backward.isDefEq.respectTransparency false in
/-- The reference's divisor is the number of rows. -/
theorem rCount_apply (j : S_.Idx) : rCount j = Ideal.ofBits .f32 0x461C4000#32 := by
  pointwise [rCount]
  show _ - ((((0#32 : BitVec 32).toInt : ℝ)) : EReal) = _
  simp

set_option backward.isDefEq.respectTransparency false in
/-- The reference's normalisation at an entry: the guard passes, and the variance is the column's. -/
theorem rNorm_apply (y : FVec Ideal S10000x256 .f32) (g b : FVec Ideal S256 .f32) (r : Fin 10000) (l : Fin 256) :
    rNorm y g b (ix2 r l)
      = Ideal.div (y (ix2 r l) - mean fun k => y (ix2 k l))
          (Ideal.sqrt (var (fun k => y (ix2 k l)) + Ideal.ofBits .f32 0x3727C5AC#32)) * g (ix1 l) + b (ix1 l) := by
  pointwise [rNorm, rCentred]
  simp only [rCount_apply]
  rw [if_pos count_pos]
  rfl

end reference

/-- A mean square is never negative. -/
theorem var_nonneg (f : Fin 10000 → EReal) : 0 ≤ var f := by
  unfold var Ideal.div
  rw [if_neg count_pos.ne', ofBits_count, ← EReal.coe_inv]
  refine mul_nonneg (Finset.sum_nonneg fun r _ => ?_) (by rw [EReal.coe_nonneg]; norm_num)
  generalize f r - mean f = d
  rcases le_total 0 d with h | h
  · exact mul_nonneg h h
  · exact EReal.mul_nonneg_iff.2 (Or.inr ⟨h, h⟩)

/-- Dividing by the square root of a positive number is multiplying by its reciprocal square root. -/
theorem div_sqrt (a s : EReal) (hs : 0 < s) : Ideal.div a (Ideal.sqrt s) = a * Ideal.rsqrt s := by
  induction s with
  | bot => exact absurd hs (by simp)
  | top =>
    rw [Ideal.sqrt_top, Ideal.rsqrt_top, Ideal.div, if_neg (by simp), EReal.inv_top]
  | coe r =>
    have hr : 0 < r := EReal.coe_pos.1 hs
    have hq : Real.sqrt r ≠ 0 := (Real.sqrt_pos.2 hr).ne'
    have hq' : ((Real.sqrt r : ℝ) : EReal) ≠ 0 := by exact_mod_cast hq
    rw [Ideal.sqrt_coe, Ideal.rsqrt_coe, if_neg (not_lt.2 hr.le), if_neg (not_lt.2 hr.le), if_neg hr.ne', Ideal.div,
      if_neg hq', EReal.coe_inv]

/-- The kernel's normalisation by rows holding two vectors is the reference's by the two vectors. -/
theorem kNorm_eq_rNorm (y : FVec Ideal Cert.KernelIdeal.S10000x256 .f32) (g b : FVec Ideal Cert.KernelIdeal.S1x256 .f32)
    (gv bv : FVec Ideal Cert.ReferenceIdeal.S256 .f32) (hg : ∀ l : Fin 256, g (ix2 0 l) = gv (ix1 l))
    (hb : ∀ l : Fin 256, b (ix2 0 l) = bv (ix1 l)) : kNorm y g b = rNorm y gv bv := by
  funext j
  obtain ⟨r, l, rfl⟩ : ∃ (r : Fin 10000) (l : Fin 256), j = ix2 r l := ⟨j 0, j 1, eq_ix2 j⟩
  rw [kNorm_apply, rNorm_apply, div_sqrt _ _ (lt_of_lt_of_le eps_pos (le_add_of_nonneg_left (var_nonneg _))), hg, hb]

end Cert.Norm
-- ==== Proof.Tail.lean ====
/- The equation of the kernel's body with the reference's last lines: the sum of the two inputs normalised, then put
   through one linear layer with a residual, then normalised again. -/
module

public import proofs.«01_k».proof.Proof.Norm

@[expose] public section

set_option maxRecDepth 16384

noncomputable section

namespace Cert.Tail

open Idealize.ShloMosaic Cert.Norm
open scoped BigOperators

/-- The kernel's linear layer with its residual: the product into zeros, plus the bias row, plus the input. -/
def kLin (h : FVec Ideal Cert.KernelIdeal.S10000x256 .f32) (w : FVec Ideal Cert.KernelIdeal.S256x256 .f32)
    (b : FVec Ideal Cert.KernelIdeal.S1x256 .f32) : FVec Ideal Cert.KernelIdeal.S10000x256 .f32 :=
  addf (addf
    (matmul Cert.KernelIdeal.dot_S10000x256_S256x256_S10000x256_1_0_0_1_n_n none h w
      (constant Cert.KernelIdeal.S10000x256 .f32 0x00000000#32))
    (broadcastTo Cert.KernelIdeal.S10000x256 b Cert.KernelIdeal.Gen.broadcasts_S1x256_S10000x256)) h

section reference

open Cert.ReferenceIdeal Cert.ReferenceIdeal.Gen

/-- The reference's linear layer with its residual. -/
def rLin (h : FVec Ideal S10000x256 .f32) (w : FVec Ideal S256x256 .f32) (b : FVec Ideal S256 .f32) :
    FVec Ideal S10000x256 .f32 :=
  addf (addf (Host.dotGeneral dot_S10000x256_S256x256_S10000x256_1_0_0_1_n_n none h w)
    (broadcastInDim S10000x256 ![0, 1] bcast_S1x256_S10000x256_0_1 (broadcastInDim S1x256 ![1] bcast_S256_S1x256_1 b))) h

/-- The reference's last lines, of the input, the attention's output and the six parameters. -/
def rTail (x o : FVec Ideal S10000x256 .f32) (w : FVec Ideal S256x256 .f32) (bl g0 b0 g1 b1 : FVec Ideal S256 .f32) :
    FVec Ideal S10000x256 .f32 :=
  rNorm (rLin (rNorm (addf x o) g0 b0) w bl) g1 b1

end reference

set_option backward.isDefEq.respectTransparency false in
/-- The two linear layers agree when the kernel's row holds the reference's bias. -/
theorem kLin_eq_rLin (h : FVec Ideal Cert.KernelIdeal.S10000x256 .f32) (w : FVec Ideal Cert.KernelIdeal.S256x256 .f32)
    (b : FVec Ideal Cert.KernelIdeal.S1x256 .f32) (bv : FVec Ideal Cert.ReferenceIdeal.S256 .f32)
    (hb : ∀ l : Fin 256, b (ix2 0 l) = bv (ix1 l)) : kLin h w b = rLin h w bv := by
  funext j
  obtain ⟨r, l, rfl⟩ : ∃ (r : Fin 10000) (l : Fin 256), j = ix2 r l := ⟨j 0, j 1, eq_ix2 j⟩
  pointwise [kLin, rLin]
  rw [hb]
  try simp

section kernel

open Cert.KernelIdeal Cert.KernelIdeal.Gen

set_option backward.isDefEq.respectTransparency false in
/-- The body's first part is its normalisation of the sum and its linear layer. -/
theorem pay2_eq (x o : FVec Ideal S10000x256 .f32) (g b bl : FVec Ideal S1x256 .f32) (w : FVec Ideal S256x256 .f32) :
    k0_pay2 x o g b w bl = kLin (kNorm (addf x o) g b) w bl := by
  simp only [k0_pay2, kLin, kNorm, k0_pay1, k0_pay4, shapeCast_self]

/-- The body's result is its normalisation of that. -/
theorem pay1_eq (x o : FVec Ideal S10000x256 .f32) (g b bl : FVec Ideal S1x256 .f32) (w : FVec Ideal S256x256 .f32)
    (g' b' : FVec Ideal S1x256 .f32) :
    k0_pay1 (k0_pay2 x o g b w bl) (k0_pay3 x o g b w bl) k0_pay4 g' b' = kNorm (k0_pay2 x o g b w bl) g' b' := rfl

end kernel

/-- What the body computes of its operands is the reference's last lines of the same arrays, the five rows holding the
    five vectors. -/
theorem body_eq_rTail (x o : FVec Ideal Cert.KernelIdeal.S10000x256 .f32) (w : FVec Ideal Cert.KernelIdeal.S256x256 .f32)
    (bl g0 b0 g1 b1 : FVec Ideal Cert.KernelIdeal.S1x256 .f32)
    (blv g0v b0v g1v b1v : FVec Ideal Cert.ReferenceIdeal.S256 .f32)
    (hl : ∀ l : Fin 256, bl (ix2 0 l) = blv (ix1 l))
    (hg0 : ∀ l : Fin 256, g0 (ix2 0 l) = g0v (ix1 l)) (hb0 : ∀ l : Fin 256, b0 (ix2 0 l) = b0v (ix1 l))
    (hg1 : ∀ l : Fin 256, g1 (ix2 0 l) = g1v (ix1 l)) (hb1 : ∀ l : Fin 256, b1 (ix2 0 l) = b1v (ix1 l)) :
    Cert.KernelIdeal.Gen.k0_pay1 (Cert.KernelIdeal.Gen.k0_pay2 x o g0 b0 w bl)
        (Cert.KernelIdeal.Gen.k0_pay3 x o g0 b0 w bl) Cert.KernelIdeal.Gen.k0_pay4 g1 b1
      = rTail x o w blv g0v b0v g1v b1v := by
  rw [pay1_eq, pay2_eq, kNorm_eq_rNorm _ g0 b0 g0v b0v hg0 hb0, kLin_eq_rLin _ w bl blv hl,
    kNorm_eq_rNorm _ g1 b1 g1v b1v hg1 hb1]
  rfl

end Cert.Tail
-- ==== Proof.Block.lean ====
/- What the kernel's one grid point computes of its blocks, and what the result array holds after the run. Every block is
   its whole array; the five parameter rows are read off the stacked array one by one. -/
module

public import proofs.«01_k».proof.Proof.Attention
public import proofs.«01_k».proof.Proof.Tail
public import proofs.«01_k».proof.Proof.Gen.KernelIdeal.Value
public import Idealize.ShloMosaic.Lib.Pipeline.ValueKit

@[expose] public section

set_option maxRecDepth 16384

noncomputable section

namespace Cert.Block

open Cert.KernelIdeal Cert.KernelIdeal.Gen Idealize.ShloMosaic Idealize.ShloMosaic.TcCoe Idealize.ShloMosaic.StableHlo
open Cert.HostPart (stack)

/-! ## The rows of the stacked parameters -/

section rows

variable {F : FTy → Type} [FloatOps F] (v0 v1 v2 v3 v4 : Vec F S256 .f32)

set_option backward.isDefEq.respectTransparency false in
/-- Row 0 of the stack is its first vector. -/
theorem row0 (l : Fin 256) : View.ld (Val := Elt F) (stack v0 v1 v2 v3 v4) r0_4 (ix2 0 l) = v0 (ix1 l) := by
  rw [View.ld_unit]
  pointwise [stack]

set_option backward.isDefEq.respectTransparency false in
/-- Row 1 of the stack is its second vector. -/
theorem row1 (l : Fin 256) : View.ld (Val := Elt F) (stack v0 v1 v2 v3 v4) r0_1 (ix2 0 l) = v1 (ix1 l) := by
  rw [View.ld_unit]
  pointwise [stack]

set_option backward.isDefEq.respectTransparency false in
/-- Row 2 of the stack is its third vector. -/
theorem row2 (l : Fin 256) : View.ld (Val := Elt F) (stack v0 v1 v2 v3 v4) r0_2 (ix2 0 l) = v2 (ix1 l) := by
  rw [View.ld_unit]
  pointwise [stack]

set_option backward.isDefEq.respectTransparency false in
/-- Row 3 of the stack is its fourth vector. -/
theorem row3 (l : Fin 256) : View.ld (Val := Elt F) (stack v0 v1 v2 v3 v4) r0_5 (ix2 0 l) = v3 (ix1 l) := by
  rw [View.ld_unit]
  pointwise [stack]

set_option backward.isDefEq.respectTransparency false in
/-- Row 4 of the stack is its fifth vector. -/
theorem row4 (l : Fin 256) : View.ld (Val := Elt F) (stack v0 v1 v2 v3 v4) r0_6 (ix2 0 l) = v4 (ix1 l) := by
  rw [View.ld_unit]
  pointwise [stack]

end rows

/-! ## One grid point -/

/-- The offsets of a load of a whole matrix are zero. -/
theorem off2 : (![0, 0] : Fin 2 → Nat) = fun _ => 0 := funext fun a => by fin_cases a <;> rfl

/-- The body leaves in the output's buffer the reference's last lines of its blocks. -/
theorem out_eq (x o : Vec Ideal S10000x256 .f32) (w : Vec Ideal S256x256 .f32) (v0 v1 v2 v3 v4 : Vec Ideal S256 .f32) :
    out0_4 (F := Ideal) x o w (stack v0 v1 v2 v3 v4) = Cert.Tail.rTail x o w v0 v1 v2 v3 v4 := by
  unfold out0_4
  rw [View.canon_unit_zero off2, View.ld_unit_zero off2, View.ld_unit_zero off2, View.ld_unit_zero off2]
  exact Cert.Tail.body_eq_rTail x o w _ _ _ _ _ v0 v1 v2 v3 v4 (row0 v0 v1 v2 v3 v4) (row1 v0 v1 v2 v3 v4)
    (row2 v0 v1 v2 v3 v4) (row3 v0 v1 v2 v3 v4) (row4 v0 v1 v2 v3 v4)

/-! ## The blocks and the result array -/

section array

variable {F : FTy → Type} [FloatOps F] (m : (ℓ : Loc nD τ sig) → Buf (Elt F) ℓ) (c : Dev nD)

/-- Every window of the grid's point starts at block zero. -/
theorem start0 : ∀ t : Fin cfg0.N, (∀ a, win0_0.index t a = 0) ∧ (∀ a, win0_1.index t a = 0) ∧ (∀ a, win0_2.index t a = 0)
    ∧ (∀ a, win0_3.index t a = 0) ∧ ∀ a, win0_4.index t a = 0 :=
  (by decide +kernel : ∀ t : Fin grid0.N, _)

/-- The first input's block is its whole array. -/
theorem block0 (t : Fin cfg0.N) : (iblk m c 0 t : Vec F S10000x256 .f32) = V m c main_arg3 := by
  funext y
  blk_simp [iblk]
  congr 1
  blk_ext [(start0 t).1]

/-- The second input's block is its whole array. -/
theorem block1 (t : Fin cfg0.N) : (iblk m c 1 t : Vec F S10000x256 .f32) = V m c main_v85 := by
  funext y
  blk_simp [iblk]
  congr 1
  blk_ext [(start0 t).2.1]

/-- The weights' block is their whole array. -/
theorem block2 (t : Fin cfg0.N) : (iblk m c 2 t : Vec F S256x256 .f32) = V m c main_arg20 := by
  funext y
  blk_simp [iblk]
  congr 1
  blk_ext [(start0 t).2.2.1]

/-- The stacked parameters' block is their whole array. -/
theorem block3 (t : Fin cfg0.N) : (iblk m c 3 t : Vec F S5x256 .f32) = V m c main_v91 := by
  funext y
  blk_simp [iblk]
  congr 1
  blk_ext [(start0 t).2.2.2.1]

/-- After the run the result array holds what the body computes of the four whole arrays. -/
theorem array_eq : (dats m 0 c).arrAt 4 cfg0.N
    = out0_4 (V m c main_arg3) (V m c main_v85) (V m c main_arg20) (V m c main_v91) := by
  refine (dats m 0 c).arrAt_eq_of_covers 4 _ (by decide +kernel) fun t hf y => ?_
  blk_simp
  rw [after0_4, block0, block1, block2, block3]
  congr 1
  blk_ext [(start0 t).2.2.2.2]

end array

end Cert.Block
-- ==== Proof.Result.lean ====
/- The equation: started from the same arguments, the kernel's result array and the reference's last array hold the same
   values. -/
module

public import proofs.«01_k».proof.Proof.Block

@[expose] public section

set_option maxRecDepth 16384

noncomputable section

namespace Cert.Result

open Idealize.ShloMosaic Idealize.ShloMosaic.TcCoe Idealize.ShloMosaic.StableHlo Idealize.SL.Sem
open Cert.HostPart (Agree prefix_reads)

section reference

open Cert.ReferenceIdeal Cert.ReferenceIdeal.Gen Cert.ReferenceIdeal.Value Cert.Norm Cert.Tail

/-- What the reference leaves in its result: the second normalisation of its linear layer's output. -/
def final (V0 : Valuation τ sig (Elt Ideal)) : FVec Ideal S10000x256 .f32 :=
  rNorm (rLin (rNorm (res_main_v86 V0) (V0 (Proc.devRef .tc main_arg22)) (V0 (Proc.devRef .tc main_arg23)))
      (V0 (Proc.devRef .tc main_arg20)) (V0 (Proc.devRef .tc main_arg21)))
    (V0 (Proc.devRef .tc main_arg24)) (V0 (Proc.devRef .tc main_arg25))

/-- The reference's first normalisation. -/
theorem v105_eq (V0 : Valuation τ sig (Elt Ideal)) : res_main_v105 V0
    = rNorm (res_main_v86 V0) (V0 (Proc.devRef .tc main_arg22)) (V0 (Proc.devRef .tc main_arg23)) := rfl

/-- The reference's linear layer of it. -/
theorem v110_eq (V0 : Valuation τ sig (Elt Ideal)) : res_main_v110 V0
    = rLin (res_main_v105 V0) (V0 (Proc.devRef .tc main_arg20)) (V0 (Proc.devRef .tc main_arg21)) := rfl

/-- The reference's result is `final` of what its buffers held at the start. -/
theorem final_eq (V0 : Valuation τ sig (Elt Ideal)) :
    rNorm (res_main_v110 V0) (V0 (Proc.devRef .tc main_arg24)) (V0 (Proc.devRef .tc main_arg25)) = final V0 := by
  rw [v110_eq, v105_eq]
  rfl

end reference

section kernel

open Cert.KernelIdeal Cert.KernelIdeal.Gen

/-- The kernel's result array is the reference's result, the 26 arguments being the same. -/
theorem array_final (m : (ℓ : Loc nD τ sig) → Buf (Elt Ideal) ℓ) (c : Dev nD)
    (V0 : Valuation Cert.ReferenceIdeal.τ Cert.ReferenceIdeal.sig (Elt Ideal)) (h : Agree (fun b => m (c, b)) V0) :
    (dats m 0 c).arrAt 4 cfg0.N = final V0 := by
  obtain ⟨h86, h91⟩ := prefix_reads h
  have e3 : (V m c main_arg3 : Vec Ideal S10000x256 .f32) = V0 (Proc.devRef .tc Cert.ReferenceIdeal.main_arg3) :=
    (V_main_arg3 m c).trans h.a3
  have e20 : (V m c main_arg20 : Vec Ideal S256x256 .f32) = V0 (Proc.devRef .tc Cert.ReferenceIdeal.main_arg20) :=
    (V_main_arg20 m c).trans h.a20
  refine (Cert.Block.array_eq m c).trans ?_
  rw [e3, e20]
  refine (congrArg (out0_4 (F := Ideal) _ _ _) h91).trans ?_
  rw [Cert.Block.out_eq]
  unfold Cert.Tail.rTail final
  rw [← h86]

end kernel

end Cert.Result
-- ==== Proof.lean ====
/- The five claims of proofs.«01_k».proof.Defs: the kernel, the kernel over the extended reals and the reference run to
   their ends and leave their arguments alone; the kernel over the extended reals is the kernel's own text; and it ends
   with the reference's result. -/
module

public import proofs.«01_k».proof.Proof.Result
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

/-- The kernel as printed: it runs to its end, leaves its arguments alone and every semaphore at zero. -/
theorem kernel_frame : Cert.quiescent_Kernel := fun m ρ _ => Cert.Kernel.Gen.frame m ρ

/-- The same of the kernel over the extended reals. -/
theorem kernelIdeal_frame : Cert.quiescent_KernelIdeal := fun m ρ _ => Cert.KernelIdeal.Gen.frame m ρ

/-- The same of the reference over the extended reals. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- No operation of the kernel was replaced. -/
theorem preserved : Cert.preserves_Kernel_KernelIdeal := trivial

/-- From the same arguments the kernel and the reference end with the same result, over the extended reals. -/
theorem same_result : Cert.algebraic_KernelIdeal_ReferenceIdeal := by
  intro m ρ m' ρ' _ hagree
  have agree : ∀ c, Cert.HostPart.Agree (F := Ideal) (fun b => m (c, b)) (launchContents m' c) := fun c => by
    obtain ⟨h0, h1, h2, h3, h4, h5, h6, h7, h8, h9, h10, h11, h12, h13, h14, h15, h16, h17, h18, h19, h20, h21, h22, h23, h24, h25⟩ := hagree c
    exact ⟨h0.symm, h1.symm, h2.symm, h3.symm, h4.symm, h5.symm, h6.symm, h7.symm, h8.symm, h9.symm, h10.symm, h11.symm, h12.symm, h13.symm, h14.symm, h15.symm, h16.symm, h17.symm, h18.symm, h19.symm, h20.symm, h21.symm, h22.symm, h23.symm, h24.symm, h25.symm⟩
  refine ⟨fun c => Cert.Result.final (launchContents m' c), ?_, ?_⟩
  · exact (θ_run _ _ _).mono
      (fun _ h c => ⟨(h c).1.trans (Cert.Result.array_final m c (launchContents m' c) (agree c)), (h c).2⟩)
      (Cert.KernelIdeal.Value.run_blocks (F := Ideal) m ρ)
  · exact (θ_run _ _ _).mono
      (fun _ h c => ⟨(h c).1.trans (Cert.Result.final_eq (launchContents m' c)), (h c).2⟩)
      (Cert.ReferenceIdeal.Value.run (F := Ideal) m' ρ')

/-- All five claims. -/
theorem claim : Cert.Claim :=
  ⟨Cert.Kernel.Gen.facts, Cert.KernelIdeal.Gen.facts, Cert.ReferenceIdeal.Gen.facts,
    kernel_frame, kernelIdeal_frame, reference_frame, preserved, same_result⟩

end Cert.Proof

end
